-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8192x4 : Shape := ⟨2, ![8192, 4]⟩
abbrev S2 : Shape := ⟨1, ![2]⟩
abbrev S8192x2 : Shape := ⟨2, ![8192, 2]⟩
abbrev S_ : Shape := ⟨0, ![]⟩

class Facts : Prop where
  slices_S8192x4_S8192x2_0_0 : S8192x4.Slices ![0, 0] S8192x2
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x4 .f32) (main_arg1 : FVec F S8192x4 .f32) (main_arg2 : FVec F S2 .f32) : IVec S_ 1 :=
  let main_v0 : FVec F S8192x2 .f32 := (extractStridedSlice S8192x2 ![0, 0] · slices_S8192x4_S8192x2_0_0) main_arg0
  let main_v1 : FVec F S8192x2 .f32 := Host.absf main_v0
  let main_cst : FVec F S_ .f32 := constant S_ .f32 0x7F800000#32
  let main_v2 : FVec F S8192x2 .f32 := broadcastInDim S8192x2 ![] bcast_S_S8192x2 main_cst
  let main_v3 : IVec S8192x2 1 := cmpf .olt main_v1 main_v2
  let main_c : IVec S_ 1 := constantI S_ 1 1#1
  let main_v4 : IVec S_ 1 := (fun x v => Host.reduce IntOp.andi x v reducesTo_S8192x2_S_d0_1 h_S_) main_v3 main_c
  let main_v5 : FVec F S8192x2 .f32 := (extractStridedSlice S8192x2 ![0, 0] · slices_S8192x4_S8192x2_0_0) main_arg1
  let main_v6 : FVec F S8192x2 .f32 := Host.absf main_v5
  let main_cst_0 : FVec F S_ .f32 := constant S_ .f32 0x7F800000#32
  let main_v7 : FVec F S8192x2 .f32 := broadcastInDim S8192x2 ![] bcast_S_S8192x2 main_cst_0
  let main_v8 : IVec S8192x2 1 := cmpf .olt main_v6 main_v7
  let main_c_1 : IVec S_ 1 := constantI S_ 1 1#1
  let main_v9 : IVec S_ 1 := (fun x v => Host.reduce IntOp.andi x v reducesTo_S8192x2_S_d0_1 h_S_) main_v8 main_c_1
  let main_v10 : IVec S_ 1 := andi main_v4 main_v9
  main_v10
-- ==== KernelIdeal.lean ====
abbrev S8192x4 : Shape := ⟨2, ![8192, 4]⟩
abbrev S2 : Shape := ⟨1, ![2]⟩
abbrev S8192x2 : Shape := ⟨2, ![8192, 2]⟩
abbrev S16384x2 : Shape := ⟨2, ![16384, 2]⟩
abbrev S2x8192 : Shape := ⟨2, ![2, 8192]⟩
abbrev S1x2x8192 : Shape := ⟨3, ![1, 2, 8192]⟩
abbrev S2x2x8192 : Shape := ⟨3, ![2, 2, 8192]⟩
abbrev S64x1x256 : Shape := ⟨3, ![64, 1, 256]⟩
abbrev S256x2 : Shape := ⟨2, ![256, 2]⟩
abbrev S1x1x256 : Shape := ⟨3, ![1, 1, 256]⟩
abbrev S256x1 : Shape := ⟨2, ![256, 1]⟩
abbrev S1x1x8192 : Shape := ⟨3, ![1, 1, 8192]⟩
abbrev S1x8192 : Shape := ⟨2, ![1, 8192]⟩
abbrev S256x8 : Shape := ⟨2, ![256, 8]⟩
abbrev S8x8192 : Shape := ⟨2, ![8, 8192]⟩
abbrev S256x8192 : Shape := ⟨2, ![256, 8192]⟩
abbrev S256 : Shape := ⟨1, ![256]⟩
abbrev S8192x1 : Shape := ⟨2, ![8192, 1]⟩
abbrev S8192 : Shape := ⟨1, ![8192]⟩
abbrev S32x64 : Shape := ⟨2, ![32, 64]⟩
abbrev S128 : Shape := ⟨1, ![128]⟩
abbrev S64 : Shape := ⟨1, ![64]⟩
abbrev S_ : Shape := ⟨0, ![]⟩
abbrev S16 : Shape := ⟨1, ![16]⟩
abbrev S1x64 : Shape := ⟨2, ![1, 64]⟩
abbrev S32x4x16 : Shape := ⟨3, ![32, 4, 16]⟩
abbrev S4 : Shape := ⟨1, ![4]⟩
abbrev S1 : Shape := ⟨1, ![1]⟩

abbrev nBuf : Table → Nat
  | .hbm => 46
  | .local .tc .vmem => 6
  | .local .scVector .vmem => 6
  | _ => 0

abbrev bufTy : (tb : Table) → Fin (nBuf tb) → BufTy
  | .hbm, ⟨0, _⟩ => ⟨S8192x4, .f32⟩
  | .hbm, ⟨1, _⟩ => ⟨S8192x4, .f32⟩
  | .hbm, ⟨2, _⟩ => ⟨S2, .f32⟩
  | .hbm, ⟨3, _⟩ => ⟨S8192x2, .f32⟩
  | .hbm, ⟨4, _⟩ => ⟨S8192x2, .f32⟩
  | .hbm, ⟨5, _⟩ => ⟨S16384x2, .f32⟩
  | .hbm, ⟨6, _⟩ => ⟨S2x8192, .f32⟩
  | .hbm, ⟨7, _⟩ => ⟨S2x8192, .f32⟩
  | .hbm, ⟨8, _⟩ => ⟨S1x2x8192, .f32⟩
  | .hbm, ⟨9, _⟩ => ⟨S1x2x8192, .f32⟩
  | .hbm, ⟨10, _⟩ => ⟨S2x2x8192, .f32⟩
  | .hbm, ⟨11, _⟩ => ⟨S64x1x256, .i32⟩
  | .hbm, ⟨12, _⟩ => ⟨S2x8192, .i32⟩
  | .hbm, ⟨13, _⟩ => ⟨S8192x1, .f32⟩
  | .hbm, ⟨14, _⟩ => ⟨S8192, .f32⟩
  | .hbm, ⟨15, _⟩ => ⟨S8192x1, .f32⟩
  | .hbm, ⟨16, _⟩ => ⟨S8192, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S1x8192, .i32⟩
  | .hbm, ⟨22, _⟩ => ⟨S8192, .i32⟩
  | .hbm, ⟨23, _⟩ => ⟨S1x8192, .i32⟩
  | .hbm, ⟨24, _⟩ => ⟨S8192, .i32⟩
  | .hbm, ⟨25, _⟩ => ⟨S32x64, .f32⟩
  | .hbm, ⟨26, _⟩ => ⟨S32x4x16, .f32⟩
  | .hbm, ⟨27, _⟩ => ⟨S_, .f32⟩
  | .hbm, ⟨28, _⟩ => ⟨S4, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S_, .f32⟩
  | .local .tc .vmem, ⟨0, _⟩ => ⟨S256x2, .f32⟩
  | .local .tc .vmem, ⟨1, _⟩ => ⟨S256x2, .f32⟩
  | .local .tc .vmem, ⟨2, _⟩ => ⟨S1x2x8192, .f32⟩
  | .local .tc .vmem, ⟨3, _⟩ => ⟨S1x2x8192, .f32⟩
  | .local .tc .vmem, ⟨4, _⟩ => ⟨S1x1x256, .i32⟩
  | .local .tc .vmem, ⟨5, _⟩ => ⟨S1x1x256, .i32⟩
  | .local .scVector .vmem, ⟨0, _⟩ => ⟨S128, .i32⟩
  | .local .scVector .vmem, ⟨1, _⟩ => ⟨S128, .f32⟩
  | .local .scVector .vmem, ⟨2, _⟩ => ⟨S128, .f32⟩
  | .local .scVector .vmem, ⟨3, _⟩ => ⟨S128, .f32⟩
  | .local .scVector .vmem, ⟨4, _⟩ => ⟨S128, .f32⟩
  | .local .scVector .vmem, ⟨5, _⟩ => ⟨S64, .f32⟩
  | _, _ => ⟨S8192x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v11_scv : Ref sig .scVector := ⟨.hbm, 14, rfl⟩
abbrev main_v13_scv : Ref sig .scVector := ⟨.hbm, 16, rfl⟩
abbrev main_v15_scv : Ref sig .scVector := ⟨.hbm, 18, rfl⟩
abbrev main_v17_scv : Ref sig .scVector := ⟨.hbm, 20, rfl⟩
abbrev main_v19_scv : Ref sig .scVector := ⟨.hbm, 22, rfl⟩
abbrev main_v21_scv : Ref sig .scVector := ⟨.hbm, 24, rfl⟩
abbrev main_v22_scv : Ref sig .scVector := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v5 : BitVec 32 := Scalar.addi v2 c0_i32
  ![v5.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_145_r12 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4 : Shape := ⟨2, ![8192, 4]⟩
abbrev S2 : Shape := ⟨1, ![2]⟩
abbrev S_ : Shape := ⟨0, ![]⟩
abbrev S2x1 : Shape := ⟨2, ![2, 1]⟩
abbrev S1 : Shape := ⟨1, ![1]⟩
abbrev S1x1 : Shape := ⟨2, ![1, 1]⟩
abbrev S8192x2 : Shape := ⟨2, ![8192, 2]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S2, .f32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S2x1, .i32⟩
  | .hbm, ⟨12, _⟩ => ⟨S1, .i32⟩
  | .hbm, ⟨13, _⟩ => ⟨S_, .i32⟩
  | .hbm, ⟨14, _⟩ => ⟨S2x1, .i32⟩
  | .hbm, ⟨15, _⟩ => ⟨S2x1, .i1⟩
  | .hbm, ⟨16, _⟩ => ⟨S1x1, .i32⟩
  | .hbm, ⟨17, _⟩ => ⟨S2x1, .i32⟩
  | .hbm, ⟨18, _⟩ => ⟨S2x1, .i1⟩
  | .hbm, ⟨19, _⟩ => ⟨S2x1, .i1⟩
  | .hbm, ⟨20, _⟩ => ⟨S_, .i1⟩
  | .hbm, ⟨21, _⟩ => ⟨S2, .i1⟩
  | .hbm, ⟨22, _⟩ => ⟨S8192x2, .f32⟩
  | .hbm, ⟨23, _⟩ => ⟨S8192x2, .i1⟩
  | .hbm, ⟨24, _⟩ => ⟨S_, .f32⟩
  | .hbm, ⟨25, _⟩ => ⟨S8192x2, .f32⟩
  | .hbm, ⟨26, _⟩ => ⟨S8192x2, .f32⟩
  | .hbm, ⟨27, _⟩ => ⟨S_, .i32⟩
  | .hbm, ⟨28, _⟩ => ⟨S2, .i32⟩
  | .hbm, ⟨29, _⟩ => ⟨S2, .i1⟩
  | .hbm, ⟨30, _⟩ => ⟨S_, .i32⟩
  | .hbm, ⟨31, _⟩ => ⟨S2, .i32⟩
  | .hbm, ⟨32, _⟩ => ⟨S2, .i32⟩
  | .hbm, ⟨33, _⟩ => ⟨S2, .i32⟩
  | .hbm, ⟨34, _⟩ => ⟨S2x1, .i32⟩
  | .hbm, ⟨35, _⟩ => ⟨S1, .i32⟩
  | .hbm, ⟨36, _⟩ => ⟨S_, .i32⟩
  | .hbm, ⟨37, _⟩ => ⟨S2x1, .i32⟩
  | .hbm, ⟨38, _⟩ => ⟨S2x1, .i1⟩
  | .hbm, ⟨39, _⟩ => ⟨S1x1, .i32⟩
  | .hbm, ⟨40, _⟩ => ⟨S2x1, .i32⟩
  | .hbm, ⟨41, _⟩ => ⟨S2x1, .i1⟩
  | .hbm, ⟨42, _⟩ => ⟨S2x1, .i1⟩
  | .hbm, ⟨43, _⟩ => ⟨S_, .i1⟩
  | .hbm, ⟨44, _⟩ => ⟨S2, .i1⟩
  | .hbm, ⟨45, _⟩ => ⟨S8192x2, .f32⟩
  | .hbm, ⟨46, _⟩ => ⟨S8192x2, .i1⟩
  | .hbm, ⟨47, _⟩ => ⟨S_, .f32⟩
  | .hbm, ⟨48, _⟩ => ⟨S8192x2, .f32⟩
  | .hbm, ⟨49, _⟩ => ⟨S8192x2, .f32⟩
  | .hbm, ⟨50, _⟩ => ⟨S8192x2, .f32⟩
  | .hbm, ⟨51, _⟩ => ⟨S_, .f32⟩
  | .hbm, ⟨52, _⟩ => ⟨S8192, .f32⟩
  | .hbm, ⟨53, _⟩ => ⟨S8192x2, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S1x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S2x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S8192x8192, .i32⟩
  | .hbm, ⟨68, _⟩ => ⟨S_, .f32⟩
  | .hbm, ⟨69, _⟩ => ⟨S_, .i32⟩
  | .hbm, ⟨70, _⟩ => ⟨S8192, .f32⟩
  | .hbm, ⟨71, _⟩ => ⟨S8192, .i32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S8192x1, .i32⟩
  | .hbm, ⟨80, _⟩ => ⟨S8192x2, .f32⟩
  | .hbm, ⟨81, _⟩ => ⟨S8192x2, .f32⟩
  | .hbm, ⟨82, _⟩ => ⟨S8192x2, .f32⟩
  | .hbm, ⟨83, _⟩ => ⟨S1x2, .f32⟩
  | .hbm, ⟨84, _⟩ => ⟨S8192x2, .f32⟩
  | .hbm, ⟨85, _⟩ => ⟨S8192x2, .f32⟩
  | .hbm, ⟨86, _⟩ => ⟨S_, .f32⟩
  | .hbm, ⟨87, _⟩ => ⟨S_, .f32⟩
  | .hbm, ⟨88, _⟩ => ⟨S8192x2, .f32⟩
  | .hbm, ⟨89, _⟩ => ⟨S_, .f32⟩
  | .hbm, ⟨90, _⟩ => ⟨S8192, .f32⟩
  | .hbm, ⟨91, _⟩ => ⟨S8192x2, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S1x8192, .f32⟩
  | .hbm, ⟨96, _⟩ => ⟨S8192x8192, .f32⟩
  | .hbm, ⟨97, _⟩ => ⟨S8192x8192, .f32⟩
  | .hbm, ⟨98, _⟩ => ⟨S8192x8192, .f32⟩
  | .hbm, ⟨99, _⟩ => ⟨S2x8192, .f32⟩
  | .hbm, ⟨100, _⟩ => ⟨S8192x8192, .f32⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S8192x8192, .i32⟩
  | .hbm, ⟨106, _⟩ => ⟨S_, .f32⟩
  | .hbm, ⟨107, _⟩ => ⟨S_, .i32⟩
  | .hbm, ⟨108, _⟩ => ⟨S8192, .f32⟩
  | .hbm, ⟨109, _⟩ => ⟨S8192, .i32⟩
  | .hbm, ⟨110, _⟩ => ⟨S_, .i32⟩
  | .hbm, ⟨111, _⟩ => ⟨S8192, .i32⟩
  | .hbm, ⟨112, _⟩ => ⟨S8192, .i1⟩
  | .hbm, ⟨113, _⟩ => ⟨S_, .i32⟩
  | .hbm, ⟨114, _⟩ => ⟨S8192, .i32⟩
  | .hbm, ⟨115, _⟩ => ⟨S8192, .i32⟩
  | .hbm, ⟨116, _⟩ => ⟨S8192, .i32⟩
  | .hbm, ⟨117, _⟩ => ⟨S8192x1, .i32⟩
  | .hbm, ⟨118, _⟩ => ⟨S8192x2, .f32⟩
  | .hbm, ⟨119, _⟩ => ⟨S8192x2, .f32⟩
  | .hbm, ⟨120, _⟩ => ⟨S8192x2, .f32⟩
  | .hbm, ⟨121, _⟩ => ⟨S_, .f32⟩
  | .hbm, ⟨122, _⟩ => ⟨S_, .f32⟩
  | .hbm, ⟨123, _⟩ => ⟨S_, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_cst_0 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_1 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_call2_v0 : Ref sig .tc := ⟨.hbm, 67, rfl⟩
abbrev main_call2_cst : Ref sig .tc := ⟨.hbm, 68, rfl⟩
abbrev main_call2_c : Ref sig .tc := ⟨.hbm, 69, rfl⟩
abbrev main_call2_v1_0 : Ref sig .tc := ⟨.hbm, 70, rfl⟩
abbrev main_v16 : Ref sig .tc := ⟨.hbm, 71, rfl⟩
abbrev main_c_2 : Ref sig .tc := ⟨.hbm, 72, rfl⟩
abbrev main_v17 : Ref sig .tc := ⟨.hbm, 73, rfl⟩
abbrev main_v18 : Ref sig .tc := ⟨.hbm, 74, rfl⟩
abbrev main_c_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_cst_4 : Ref sig .tc := ⟨.hbm, 86, rfl⟩
abbrev main_v29 : Ref sig .tc := ⟨.hbm, 87, rfl⟩
abbrev main_v30 : Ref sig .tc := ⟨.hbm, 88, rfl⟩
abbrev main_cst_5 : Ref sig .tc := ⟨.hbm, 89, rfl⟩
abbrev main_v31 : Ref sig .tc := ⟨.hbm, 90, rfl⟩
abbrev main_v32 : Ref sig .tc := ⟨.hbm, 91, rfl⟩
abbrev main_cst_6 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_7 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_call3_v0 : Ref sig .tc := ⟨.hbm, 105, rfl⟩
abbrev main_call3_cst : Ref sig .tc := ⟨.hbm, 106, rfl⟩
abbrev main_call3_c : Ref sig .tc := ⟨.hbm, 107, rfl⟩
abbrev main_call3_v1_0 : Ref sig .tc := ⟨.hbm, 108, rfl⟩
abbrev main_v44 : Ref sig .tc := ⟨.hbm, 109, rfl⟩
abbrev main_c_8 : Ref sig .tc := ⟨.hbm, 110, rfl⟩
abbrev main_v45 : Ref sig .tc := ⟨.hbm, 111, rfl⟩
abbrev main_v46 : Ref sig .tc := ⟨.hbm, 112, rfl⟩
abbrev main_c_9 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_10 : Ref sig .tc := ⟨.hbm, 121, rfl⟩
abbrev main_v54 : Ref sig .tc := ⟨.hbm, 122, rfl⟩
abbrev main_v55 : Ref sig .tc := ⟨.hbm, 123, rfl⟩

abbrev nD : Nat := 1
abbrev τ : Topo := Topo.v7x

variable {F : FTy → Type} [FloatOps F]
-- ==== Proof.Base.lean ====
/-
  What the proof of `KernelIdeal` shares: the program as the SparseCore launch sees it, the user algebra (the launch's
  handshakes, the TensorCore pipeline's rounds, the counters of the tiles' own transfers), and how a buffer held at a
  share is its sub-shares, one per reader.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra -/

/-- The launch's handshakes. -/
abbrev UH : Type := URounds (GSem nD τ sig) ℕ
/-- The TensorCore pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds in the whole algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## A share, halved -/

/-- Piece `i` of share `q` halved `n` times. -/
def piece : (n : ℕ) → PosShare TreeShare → Fin (2 ^ n) → PosShare TreeShare
  | 0, q, _ => q
  | n + 1, q, i => (finSumFinEquiv.symm (i.cast (show 2 ^ (n + 1) = 2 ^ n + 2 ^ n by omega))).elim
      (fun j => piece n q.left j) (fun j => piece n q.right j)

/-- What is held at a share is held at its pieces, all together. -/
theorem pointsTo_pieces {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i} f
  | 0, q => (bigSep_univ_of_subsingleton (0 : Fin 1) (Φ := fun i : Fin (2 ^ 0) => (ℓ ↦[I]{piece 0 q i} f : sProp 𝕄))).symm
  | n + 1, q => by
    have hhalf := pointsTo_share (ℓ := ℓ) (I := I) (f := f) (Ix := HIx 1) (Name := ℕ) (U := UU) (Lvl := ℕ) (PosShare.mem_left_op_right q)
    rw [BI.Entails.antisymm hhalf.1 hhalf.2, pointsTo_pieces I f n q.left, pointsTo_pieces I f n q.right,
      bigSep_univ_equiv (finSumFinEquiv.trans (finCongr (show 2 ^ n + 2 ^ n = 2 ^ (n + 1) by omega)))
        (fun i : Fin (2 ^ (n + 1)) => (ℓ ↦[I]{piece (n + 1) q i} f : sProp 𝕄)), bigSep_univ_sum]
    congr 1 <;> refine bigSep_congr fun i _ => ?_
    · simp [piece]
    · simp only [piece, Function.comp, Equiv.trans_apply, finCongr_apply, finSumFinEquiv_apply_right, Fin.cast_cast, Fin.cast_eq_self]
      rw [finSumFinEquiv_symm_apply_natAdd, Sum.elim_inr]

/-- SparseCore `c`'s half of an operand every tile reads. -/
abbrev qCore (c : Fin 2) : PosShare TreeShare := piece 1 fullShare c
/-- Tile `s` of SparseCore `c`'s thirty-second of it. -/
abbrev qTile (c : Fin 2) (s : Fin 16) : PosShare TreeShare := piece 4 (qCore c) s

end Cert.Proof.Chamfer

end
-- ==== Proof.TileVal.lean ====
/-
  What one tile of the SparseCore kernel computes: four accumulators of sixteen lanes each, over the tile's 256 queries.
-/
module

public import proofs.«01_k».proof.Proof.Base
public import Idealize.ShloMosaic.Lib.Pointwise.Reshape

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pxV" => (Memref.whole Cert.KernelIdeal.main_v11_scv : Memref Cert.KernelIdeal.sig Kind.scVector Space.hbm Cert.KernelIdeal.S8192 EltTy.f32)
local notation "pyV" => (Memref.whole Cert.KernelIdeal.main_v13_scv : Memref Cert.KernelIdeal.sig Kind.scVector Space.hbm Cert.KernelIdeal.S8192 EltTy.f32)
local notation "txV" => (Memref.whole Cert.KernelIdeal.main_v15_scv : Memref Cert.KernelIdeal.sig Kind.scVector Space.hbm Cert.KernelIdeal.S8192 EltTy.f32)
local notation "tyV" => (Memref.whole Cert.KernelIdeal.main_v17_scv : Memref Cert.KernelIdeal.sig Kind.scVector Space.hbm Cert.KernelIdeal.S8192 EltTy.f32)
local notation "igV" => (Memref.whole Cert.KernelIdeal.main_v19_scv : Memref Cert.KernelIdeal.sig Kind.scVector Space.hbm Cert.KernelIdeal.S8192 EltTy.i32)
local notation "ipV" => (Memref.whole Cert.KernelIdeal.main_v21_scv : Memref Cert.KernelIdeal.sig Kind.scVector Space.hbm Cert.KernelIdeal.S8192 EltTy.i32)
local notation "oV" => (Memref.whole Cert.KernelIdeal.main_v22_scv : Memref Cert.KernelIdeal.sig Kind.scVector Space.hbm Cert.KernelIdeal.S32x64 EltTy.f32)
local notation "ixV" => (Memref.whole Cert.KernelIdeal.cc1_scratch0 : Memref Cert.KernelIdeal.sig Kind.scVector Space.vmem Cert.KernelIdeal.S128 EltTy.i32)
local notation "qxV" => (Memref.whole Cert.KernelIdeal.cc1_scratch1 : Memref Cert.KernelIdeal.sig Kind.scVector Space.vmem Cert.KernelIdeal.S128 EltTy.f32)
local notation "qyV" => (Memref.whole Cert.KernelIdeal.cc1_scratch2 : Memref Cert.KernelIdeal.sig Kind.scVector Space.vmem Cert.KernelIdeal.S128 EltTy.f32)
local notation "gxV" => (Memref.whole Cert.KernelIdeal.cc1_scratch3 : Memref Cert.KernelIdeal.sig Kind.scVector Space.vmem Cert.KernelIdeal.S128 EltTy.f32)
local notation "gyV" => (Memref.whole Cert.KernelIdeal.cc1_scratch4 : Memref Cert.KernelIdeal.sig Kind.scVector Space.vmem Cert.KernelIdeal.S128 EltTy.f32)
local notation "rwV" => (Memref.whole Cert.KernelIdeal.cc1_scratch5 : Memref Cert.KernelIdeal.sig Kind.scVector Space.vmem Cert.KernelIdeal.S64 EltTy.f32)

variable [FloatOps F]

/-- The six arrays every tile reads. -/
structure Ins (F : FTy → Type) where
  px : S8192.Idx → Elt F .f32
  py : S8192.Idx → Elt F .f32
  tx : S8192.Idx → Elt F .f32
  ty : S8192.Idx → Elt F .f32
  ig : S8192.Idx → Elt F .i32
  ip : S8192.Idx → Elt F .i32

/-- Each index names a row of the other set. -/
def Ins.InRange (A : Ins F) : Prop := (∀ x, BitVec.toNat (A.ig x) < 8192) ∧ (∀ x, BitVec.toNat (A.ip x) < 8192)

/-- Position `n` of a set of 8192 rows. -/
def at8192 (n : ℕ) : S8192.Idx := fun | 0 => (⟨n % 8192, Nat.mod_lt _ (by decide)⟩ : Fin 8192)
/-- A chunk of 128, and a register of sixteen lanes, by position. -/
def vec128 {α : Type} (g : ℕ → α) : S128.Idx → α := fun y => g (y 0).val
def vec16 {α : Type} (g : ℕ → α) : S16.Idx → α := fun y => g (y 0).val

/-- `|q[n] - t[ix[n]]|` added up over the sixteen groups of sixteen queries from row `n` on, lane by lane, in the order
    the tile adds them. -/
def lanes (q t : S8192.Idx → Elt F .f32) (ix : S8192.Idx → Elt F .i32) (n : ℕ) : FVec F S16 .f32 :=
  [0, 128].foldl (fun acc c => [0, 16, 32, 48, 64, 80, 96, 112].foldl (fun acc o =>
    addf acc (absf (subf (vec16 fun k => q (at8192 (n + (c + (o + k)))) : FVec F S16 .f32)
      (vec16 fun k => t (at8192 (BitVec.toNat (ix (at8192 (n + (c + (o + k))))))))))) acc)
    (broadcast S16 (Scalar.ofBits .f32 0x00000000#32 : F .f32))

/-- The four accumulators of the tile of queries from row `n` on. -/
def rowLanes (A : Ins F) (n : ℕ) (k : Fin 4) : FVec F S16 .f32 := match k with
  | 0 => lanes A.px A.tx A.ig n
  | 1 => lanes A.py A.ty A.ig n
  | 2 => lanes A.tx A.px A.ip n
  | 3 => lanes A.ty A.py A.ip n

/-- The array of every tile's partial sums. -/
def outSpec (A : Ins F) : S32x64.Idx → Elt F .f32 := fun z =>
  rowLanes A (256 * (z 0).val) ⟨(z 1).val / 16, by have : (z 1).val < 64 := (z 1).isLt; omega⟩
    (fun | 0 => (⟨(z 1).val % 16, Nat.mod_lt _ (by decide)⟩ : Fin 16))

omit [FloatOps F] in
theorem at8192_of (x : S8192.Idx) {n : ℕ} (h : (x 0).val = n) : x = at8192 n := by
  funext a
  match a with
  | 0 => exact Fin.ext (by
      have : (x 0).val < 8192 := (x 0).isLt
      show (x 0).val = n % 8192; omega)

/-- A sixteen-lane load of a chunk just copied in. -/
theorem ld_qx {o : ℕ} (inb : ∀ a, (![o] : Fin 1 → ℕ) a + S16.size a ≤ S128.size a) (f : (qxV).view.ty.Contents (Elt F)) (g : ℕ → Elt F .f32) :
    View.readAt (Elt F) (qxV).view (Rect.unit (s := S128) ![o] S16.size inb).toLoadRect (View.write (Elt F) (qxV).view f (vec128 g) Finset.univ)
      = vec16 (fun k => g (o + k)) := by
  rw [View.write_whole_univ]
  funext y
  show g (o + 1 * (y 0).val) = g (o + (y 0).val)
  rw [one_mul]
theorem ld_qx' {o : ℕ} (inb : ∀ a, (![o] : Fin 1 → ℕ) a + (![16] : Fin 1 → ℕ) a ≤ S128.size a) (f : cc1_scratch1.ty.Contents (Elt F)) (g : ℕ → Elt F .f32) :
    View.readAt (Elt F) (View.whole cc1_scratch1) (Rect.unit (s := S128) ![o] ![16] inb).toLoadRect
        (View.write (Elt F) (View.whole cc1_scratch1) f (vec128 g) Finset.univ)
      = vec16 (fun k => g (o + k)) := ld_qx inb f g
theorem ld_qy {o : ℕ} (inb : ∀ a, (![o] : Fin 1 → ℕ) a + S16.size a ≤ S128.size a) (f : (qyV).view.ty.Contents (Elt F)) (g : ℕ → Elt F .f32) :
    View.readAt (Elt F) (qyV).view (Rect.unit (s := S128) ![o] S16.size inb).toLoadRect (View.write (Elt F) (qyV).view f (vec128 g) Finset.univ)
      = vec16 (fun k => g (o + k)) := by
  rw [View.write_whole_univ]
  funext y
  show g (o + 1 * (y 0).val) = g (o + (y 0).val)
  rw [one_mul]
theorem ld_qy' {o : ℕ} (inb : ∀ a, (![o] : Fin 1 → ℕ) a + (![16] : Fin 1 → ℕ) a ≤ S128.size a) (f : cc1_scratch2.ty.Contents (Elt F)) (g : ℕ → Elt F .f32) :
    View.readAt (Elt F) (View.whole cc1_scratch2) (Rect.unit (s := S128) ![o] ![16] inb).toLoadRect
        (View.write (Elt F) (View.whole cc1_scratch2) f (vec128 g) Finset.univ)
      = vec16 (fun k => g (o + k)) := ld_qy inb f g
theorem ld_gx {o : ℕ} (inb : ∀ a, (![o] : Fin 1 → ℕ) a + S16.size a ≤ S128.size a) (g : ℕ → Elt F .f32)
    (l : List (View.Piece (Elt F) S128 .f32)) :
    (gxV).view.readCov ((⟨Rect.whole S128, vec128 g⟩ : View.Piece (Elt F) S128 .f32) :: l) (Rect.unit (s := S128) ![o] S16.size inb).toLoadRect
      = vec16 (fun k => g (o + k)) := by
  funext y
  have h := View.write_emb_of_mem (Val := Elt F) (v := (gxV).view.slice (Rect.whole S128)) ((gxV).view.writes (Elt F) (View.junk _) l) (vec128 g)
    (Finset.mem_univ ((Rect.unit (s := S128) ![o] S16.size inb).toLoadRect.idx y))
  have he : ((gxV).view.slice (Rect.whole S128)).emb ((Rect.unit (s := S128) ![o] S16.size inb).toLoadRect.idx y)
      = (Rect.unit (s := S128) ![o] S16.size inb).toLoadRect.idx y := by
    funext a
    exact Fin.ext (show 0 + 1 * _ = _ by omega)
  rw [he] at h
  refine (show _ = _ from h).trans ?_
  show g (o + 1 * (y 0).val) = g (o + (y 0).val)
  rw [one_mul]

theorem ld_gy {o : ℕ} (inb : ∀ a, (![o] : Fin 1 → ℕ) a + S16.size a ≤ S128.size a) (g : ℕ → Elt F .f32)
    (l : List (View.Piece (Elt F) S128 .f32)) :
    (gyV).view.readCov ((⟨Rect.whole S128, vec128 g⟩ : View.Piece (Elt F) S128 .f32) :: l) (Rect.unit (s := S128) ![o] S16.size inb).toLoadRect
      = vec16 (fun k => g (o + k)) := by
  funext y
  have h := View.write_emb_of_mem (Val := Elt F) (v := (gyV).view.slice (Rect.whole S128)) ((gyV).view.writes (Elt F) (View.junk _) l) (vec128 g)
    (Finset.mem_univ ((Rect.unit (s := S128) ![o] S16.size inb).toLoadRect.idx y))
  have he : ((gyV).view.slice (Rect.whole S128)).emb ((Rect.unit (s := S128) ![o] S16.size inb).toLoadRect.idx y)
      = (Rect.unit (s := S128) ![o] S16.size inb).toLoadRect.idx y := by
    funext a
    exact Fin.ext (show 0 + 1 * _ = _ by omega)
  rw [he] at h
  refine (show _ = _ from h).trans ?_
  show g (o + 1 * (y 0).val) = g (o + (y 0).val)
  rw [one_mul]

variable (L : grid1.Coords)

/-- The tile's first query. -/
abbrev base (L : grid1.Coords) : ℕ := 256 * (2 * (L 1).val + (L 0).val)

omit [FloatOps F] in
theorem off_val (r : Fin 2) : k1_off1 L (BitVec.ofNat 32 (128 * r.val)) 0 = base L + 128 * r.val := by
  rw [k1_off1_eq]; show 512 * (L 1).val + 256 * (L 0).val + 128 * r.val = _; unfold base; ring

theorem chunk_read {κ : Kind} {sp : Space} {e : EltTy} (v : View sig κ sp S8192 e) (f : v.ty.Contents (Elt F)) (c : ℕ) (r : Fin 2)
    (w : BitVec 32) (hw : w = BitVec.ofNat 32 (128 * r.val)) (hc : c = 128 * r.val)
    (inb : ∀ a, k1_off1 L w a + S128.size a ≤ S8192.size a) :
    View.read (Elt F) (v.slice (Rect.unit (s := S8192) (k1_off1 L w) S128.size inb)) f
      = vec128 fun k => View.read (Elt F) v f (at8192 (base L + (c + k))) := by
  subst hw hc
  funext y
  refine congrArg (View.read (Elt F) v f) (at8192_of _ ?_)
  show k1_off1 L (BitVec.ofNat 32 (128 * r.val)) 0 + 1 * (y 0).val = _
  rw [off_val]; omega

/-- A table read whole is its contents. -/
theorem table_read {κ : Kind} {sp : Space} {e : EltTy} (v : View sig κ sp S8192 e) (f : v.ty.Contents (Elt F))
    (inb : ∀ a, (![0] : Fin 1 → ℕ) a + S8192.size a ≤ S8192.size a) :
    View.read (Elt F) (v.slice (Rect.unit (s := S8192) ![0] S8192.size inb)) f = View.read (Elt F) v f := by
  funext y
  refine congrArg (View.read (Elt F) v f) ?_
  funext a
  match a with
  | 0 => exact Fin.ext (show 0 + 1 * (y 0).val = (y 0).val by omega)

/-- The rows a chunk of indices names. -/
theorem gather_rows {T : S8192.Idx → Elt F .f32} (t : S8192.Idx → Elt F .f32) (hT : T = t) {pay : S128.Idx → Elt F .i32} (g : ℕ → BitVec 32)
    (hp : pay = vec128 g) (f : (ixV).view.ty.Contents (Elt F)) (hn) (h) :
    SparseCore.gatherPayload (e := .f32) gathers_S8192_S128 T
        (SparseCore.rows (View.read (Elt F) (ixV).view (View.write (Elt F) (ixV).view f pay Finset.univ)) hn h)
      = vec128 fun k => t (at8192 (BitVec.toNat (g k))) := by
  subst hT hp
  funext y
  unfold SparseCore.gatherPayload
  refine congrArg T (at8192_of _ ?_)
  have hax := Shape.Gathers.idx_axis gathers_S8192_S128 (SparseCore.rows (F := F) (View.read (Elt F) (ixV).view (View.write (Elt F) (ixV).view f (vec128 g) Finset.univ)) hn h) y
  refine (congrArg Fin.val hax).trans ?_
  unfold SparseCore.rows
  show BitVec.toNat _ = _
  congr 1
  rw [View.write_whole_univ]
  show g _ = g _
  congr 1
  have := Shape.rowMajor_val_one (S128.rowMajor.symm (Fin.cast hn.symm (y 0)))
  rw [Equiv.apply_symm_apply] at this
  exact this.symm

end Cert.Proof.Chamfer

end
-- ==== Proof.Tile.lean ====
/-
  The SparseCore kernel's body at a symbolic tile.
-/
module

public import proofs.«01_k».proof.Proof.TileVal

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pxV" => (Memref.whole Cert.KernelIdeal.main_v11_scv : Memref Cert.KernelIdeal.sig Kind.scVector Space.hbm Cert.KernelIdeal.S8192 EltTy.f32)
local notation "pyV" => (Memref.whole Cert.KernelIdeal.main_v13_scv : Memref Cert.KernelIdeal.sig Kind.scVector Space.hbm Cert.KernelIdeal.S8192 EltTy.f32)
local notation "txV" => (Memref.whole Cert.KernelIdeal.main_v15_scv : Memref Cert.KernelIdeal.sig Kind.scVector Space.hbm Cert.KernelIdeal.S8192 EltTy.f32)
local notation "tyV" => (Memref.whole Cert.KernelIdeal.main_v17_scv : Memref Cert.KernelIdeal.sig Kind.scVector Space.hbm Cert.KernelIdeal.S8192 EltTy.f32)
local notation "igV" => (Memref.whole Cert.KernelIdeal.main_v19_scv : Memref Cert.KernelIdeal.sig Kind.scVector Space.hbm Cert.KernelIdeal.S8192 EltTy.i32)
local notation "ipV" => (Memref.whole Cert.KernelIdeal.main_v21_scv : Memref Cert.KernelIdeal.sig Kind.scVector Space.hbm Cert.KernelIdeal.S8192 EltTy.i32)
local notation "oV" => (Memref.whole Cert.KernelIdeal.main_v22_scv : Memref Cert.KernelIdeal.sig Kind.scVector Space.hbm Cert.KernelIdeal.S32x64 EltTy.f32)
local notation "ixV" => (Memref.whole Cert.KernelIdeal.cc1_scratch0 : Memref Cert.KernelIdeal.sig Kind.scVector Space.vmem Cert.KernelIdeal.S128 EltTy.i32)
local notation "qxV" => (Memref.whole Cert.KernelIdeal.cc1_scratch1 : Memref Cert.KernelIdeal.sig Kind.scVector Space.vmem Cert.KernelIdeal.S128 EltTy.f32)
local notation "qyV" => (Memref.whole Cert.KernelIdeal.cc1_scratch2 : Memref Cert.KernelIdeal.sig Kind.scVector Space.vmem Cert.KernelIdeal.S128 EltTy.f32)
local notation "gxV" => (Memref.whole Cert.KernelIdeal.cc1_scratch3 : Memref Cert.KernelIdeal.sig Kind.scVector Space.vmem Cert.KernelIdeal.S128 EltTy.f32)
local notation "gyV" => (Memref.whole Cert.KernelIdeal.cc1_scratch4 : Memref Cert.KernelIdeal.sig Kind.scVector Space.vmem Cert.KernelIdeal.S128 EltTy.f32)
local notation "rwV" => (Memref.whole Cert.KernelIdeal.cc1_scratch5 : Memref Cert.KernelIdeal.sig Kind.scVector Space.vmem Cert.KernelIdeal.S64 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
/-- The thread of tile `L` of device `d`. -/
abbrev thr (d : Dev nD) (L : grid1.Coords) : Thread nD τ := V d (cV L) (jV L)

/-- Row `2 s + c` of the output, as the tile addresses it. -/
abbrev oRow (L : grid1.Coords) : Memref sig .scVector .hbm S64 .f32 :=
  ((oV).slice (Rect.unit (s := S32x64) (k1_off2 L) S1x64.size (k1_off2_inb L)) (fun _ => rfl)).squeeze S64 squeezes_S1x64_S64

/-- The output array, and its thirty-two rows. -/
abbrev oLoc (d : Dev nD) : Loc nD τ sig := (SparseCore.T d).loc main_v22
theorem odiv : 32 ∣ S32x64.size 0 := ⟨1, rfl⟩
abbrev orow (w : Fin 32) : Rect S32x64 := Rect.part (s := S32x64) (a₀ := 0) odiv w
abbrev oRowSet (w : Fin 32) : Finset S32x64.Idx := ((oV).view.slice (orow w)).set

/-- The tile's number. -/
abbrev wV (L : grid1.Coords) : Fin 32 :=
  ⟨2 * (L 1).val + (L 0).val, by have h1 : (L 1).val < 16 := (L 1).isLt; have h0 : (L 0).val < 2 := (L 0).isLt; omega⟩

omit [FloatOps F] in
theorem orowK_eq : Rect.unit (s := S32x64) (k1_off2 L) S1x64.size (k1_off2_inb L) = orow (wV L) := by
  unfold orow Rect.part Rect.block
  congr 1 <;> funext a
  · rw [k1_off2_eq]
    match a with
    | 0 => simp [Shape.partIx, Shape.partSize]
    | 1 => simp [Shape.partIx, Shape.partSize]
  · match a with
    | 0 => simp [Shape.partSize]
    | 1 => simp [Shape.partSize]

omit [FloatOps F] in
theorem set_oRow : (oRow L).view.set = oRowSet (wV L) := by
  show (((oV).view.slice (Rect.unit (s := S32x64) (k1_off2 L) S1x64.size (k1_off2_inb L))).reshape S64 squeezes_S1x64_S64.numel_eq).set
    = ((oV).view.slice (orow (wV L))).set
  rw [View.set_reshape]
  exact orowK_eq L ▸ rfl

omit [FloatOps F] in
theorem pts_oRow (f : Buf (Elt F) (oLoc d)) :
    ((oRow L).view.loc (thr d L) ↦[(oRow L).view.set]{fullShare} f : sProp 𝕄) = oLoc d ↦[oRowSet (wV L)]{fullShare} f := by
  rw [set_oRow]

/-- The tile's fourteen DMA semaphores. -/
def tileSem (n : Fin 14) : SemLoc sig := .dma ⟨6 + n.val, by show 6 + n.val < 20; omega⟩
omit [FloatOps F] in
theorem tileSem_inj : Function.Injective tileSem := by unfold Function.Injective; decide
abbrev tileCell (d : Dev nD) (L : grid1.Coords) : Fin 14 ↪ GSem nD τ sig :=
  ⟨fun n => (thr d L, tileSem n), fun a b h => by
    have h2 : tileSem a = tileSem b := congrArg Prod.snd h
    exact tileSem_inj h2⟩

omit [FloatOps F] in
theorem tileCell_own : (Finset.univ.map (tileCell d L)) ⊆ ownCells (thr d L) := by
  intro g hg
  obtain ⟨n, -, rfl⟩ := Finset.mem_map.mp hg
  refine mem_ownCells.mpr ⟨rfl, ?_⟩
  show (tileSem n).isScoped .scVector = true
  clear hg
  revert n; decide

/-- The rest of the tile's own cells. -/
abbrev cellsRest (d : Dev nD) (L : grid1.Coords) : Finset (GSem nD τ sig) := ownCells (thr d L) \ (Finset.univ.map (tileCell d L))

omit [FloatOps F] in
theorem ownSems0_tile :
    (ownSems0 (thr d L) : sProp 𝕄)
      = iprop((semVal (thr d L, tileSem 0) 0 ∗ semVal (thr d L, tileSem 1) 0 ∗ semVal (thr d L, tileSem 2) 0 ∗ semVal (thr d L, tileSem 3) 0
          ∗ semVal (thr d L, tileSem 4) 0 ∗ semVal (thr d L, tileSem 5) 0 ∗ semVal (thr d L, tileSem 6) 0 ∗ semVal (thr d L, tileSem 7) 0
          ∗ semVal (thr d L, tileSem 8) 0 ∗ semVal (thr d L, tileSem 9) 0 ∗ semVal (thr d L, tileSem 10) 0 ∗ semVal (thr d L, tileSem 11) 0
          ∗ semVal (thr d L, tileSem 12) 0 ∗ semVal (thr d L, tileSem 13) 0)
        ∗ bigSep (cellsRest d L) fun g => semVal g 0) := by
  unfold SparseCore.Cfg.ownSems0
  have h := bigSep_sdiff_split (Φ := fun g => (semVal g 0 : sProp 𝕄)) (tileCell_own d L)
  rw [h, bigSep_map,
    bigSep_univ_eq_bigSepL [(0 : Fin 14), 1, 2, 3, 4, 5, 6, 7, 8, 9, 10, 11, 12, 13] (by decide) (by decide)]
  rfl

/-- The tile's six scratch buffers. -/
def tileRef (n : Fin 6) : Ref sig .scVector := match n with
  | 0 => cc1_scratch0 | 1 => cc1_scratch1 | 2 => cc1_scratch2 | 3 => cc1_scratch3 | 4 => cc1_scratch4 | 5 => cc1_scratch5
omit [FloatOps F] in
theorem tileRef_inj : Function.Injective tileRef := by unfold Function.Injective; decide
abbrev tileBuf (L : grid1.Coords) : Fin 6 ↪ DevRef τ sig :=
  ⟨fun n => (Proc.scVector (cV L) (jV L)).devRef (tileRef n), fun a b h => by
    have h2 : tileRef a = tileRef b := Proc.devRef_injective _ h
    exact tileRef_inj h2⟩

omit [FloatOps F] in
theorem tileBuf_own : (Finset.univ.map (tileBuf L)) ⊆ ownRefs (τ := τ) (.scVector (cV L) (jV L)) := by
  intro b hb
  obtain ⟨n, -, rfl⟩ := Finset.mem_map.mp hb
  refine SparseCore.Cfg.mem_ownRefs_of_owner (p := Proc.scVector (cV L) (jV L)) ?_
  clear hb
  match n with
  | 0 => rfl | 1 => rfl | 2 => rfl | 3 => rfl | 4 => rfl | 5 => rfl

abbrev bufsRest (L : grid1.Coords) : Finset (DevRef τ sig) := ownRefs (τ := τ) (.scVector (cV L) (jV L)) \ (Finset.univ.map (tileBuf L))

omit [FloatOps F] in
theorem ownBufs_tile :
    (ownBufs (thr d L) : sProp 𝕄)
      = iprop(((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f))
        ∗ bigSep (bufsRest L) fun b => iprop(∃ f, ((d, b) : Loc nD τ sig) ↦{fullShare} f)) := by
  unfold SparseCore.Cfg.ownBufs
  have h := bigSep_sdiff_split (Φ := fun b => (iprop(∃ f, ((d, b) : Loc nD τ sig) ↦{fullShare} f) : sProp 𝕄)) (tileBuf_own L)
  refine h.trans ?_
  rw [bigSep_map, bigSep_univ_eq_bigSepL [(0 : Fin 6), 1, 2, 3, 4, 5] (by decide) (by decide)]
  rfl

omit [FloatOps F] in
/-- A list whose words are in range is in range once copied into the index scratch. -/
theorem list_inRange {pay : S128.Idx → Elt F .i32} (h : ∀ x, BitVec.toNat (pay x) < 8192) :
    ∀ (f : (ixV).view.ty.Contents (Elt F)) (x : S128.Idx),
      BitVec.toNat ((ixV).view.read (Elt F) (View.write (Elt F) (ixV).view f pay Finset.univ) x) < S8192.size gathers_S8192_S128.axis := by
  intro f x
  rw [View.write_whole_univ]
  simp only [Memref.view_whole, View.read_whole]
  exact h x

variable (A : Ins F)

/-- What the tile leaves in its row. -/
def rowOf (L : grid1.Coords) : S64.Idx → Elt F .f32 := fun x =>
  rowLanes A (base L) ⟨(x 0).val / 16, by have : (x 0).val < 64 := (x 0).isLt; omega⟩
    (fun | 0 => (⟨(x 0).val % 16, Nat.mod_lt _ (by decide)⟩ : Fin 16))

/-- Its sixteen lanes from lane `16 k` on are the accumulator `k`. -/
theorem rowOf_emb (k : Fin 4) {o : ℕ} (inb : ∀ a, (![o] : Fin 1 → ℕ) a + S16.size a ≤ S64.size a) (x : S16.Idx) (ho : o = 16 * k.val := by rfl) :
    rowLanes A (base L) k x = rowOf A L ((Rect.unit (s := S64) ![o] S16.size inb).emb x) := by
  have hx : (x 0).val < 16 := (x 0).isLt
  have hv : ((Rect.unit (s := S64) ![o] S16.size inb).emb x 0).val = 16 * k.val + (x 0).val := by
    show o + 1 * (x 0).val = _; omega
  unfold rowOf
  have hk : ∀ h, (⟨((Rect.unit (s := S64) ![o] S16.size inb).emb x 0).val / 16, h⟩ : Fin 4) = k := fun h => Fin.ext (by
    show ((Rect.unit (s := S64) ![o] S16.size inb).emb x 0).val / 16 = k.val; rw [hv]; omega)
  rw [hk]
  congr 1
  funext a
  match a with
  | 0 => exact Fin.ext (by
      show (x 0).val = ((Rect.unit (s := S64) ![o] S16.size inb).emb x 0).val % 16; rw [hv]; omega)

/-- The row written out is the row of the array of partial sums. -/
theorem row_out (fo : Buf (Elt F) (oLoc d)) :
    ((oRow L).view.loc (thr d L) ↦[(oRow L).view.set]{fullShare} (oRow L).view.writes (Elt F) fo [⟨Rect.whole S64, rowOf A L⟩] : sProp 𝕄)
      = oLoc d ↦[oRowSet (wV L)]{fullShare} outSpec A := by
  rw [← pts_oRow]
  refine pointsTo_congr fun i hi => ?_
  obtain ⟨x, -, rfl⟩ := Finset.mem_map.mp hi
  have hx : (x 0).val < 64 := (x 0).isLt
  have h := View.write_emb_of_mem (Val := Elt F) (v := (oRow L).view.slice (Rect.whole S64)) fo (rowOf A L) (Finset.mem_univ x)
  have he : ((oRow L).view.slice (Rect.whole S64)).emb x = (oRow L).view.emb x := by
    refine congrArg (oRow L).view.emb ?_
    funext a
    exact Fin.ext (show 0 + 1 * _ = _ by omega)
  rw [he] at h
  refine (show _ = _ from h).trans ?_
  have hr : Shape.reshapeEquiv (s := S1x64) (s' := S64) squeezes_S1x64_S64.numel_eq x
      = (fun | 0 => (0 : Fin 1) | 1 => (⟨(x 0).val, hx⟩ : Fin 64) : S1x64.Idx) := by
    refine Shape.reshapeEquiv_eq_of_rowMajor _ ?_
    rw [Shape.rowMajor_val_two, Shape.rowMajor_val_one]
    show 0 * 64 + (x 0).val = (x 0).val
    omega
  have h0 : ((oRow L).view.emb x 0).val = 2 * (L 1).val + (L 0).val := by
    show k1_off2 L 0 + 1 * (Shape.reshapeEquiv (s := S1x64) (s' := S64) squeezes_S1x64_S64.numel_eq x 0).val = _
    rw [hr, k1_off2_eq]
    show 2 * (L 1).val + (L 0).val + 1 * 0 = _
    omega
  have h1 : ((oRow L).view.emb x 1).val = (x 0).val := by
    show k1_off2 L 1 + 1 * (Shape.reshapeEquiv (s := S1x64) (s' := S64) squeezes_S1x64_S64.numel_eq x 1).val = _
    rw [hr, k1_off2_eq]
    show 0 + 1 * (x 0).val = _
    omega
  show rowOf A L x = outSpec A _
  unfold rowOf outSpec
  simp only [h0, h1]
  rfl

/-- The tile's share of the six arrays. -/
abbrev readShares (q : PosShare TreeShare) : sProp 𝕄 :=
  iprop(((pxV).view.loc (thr d L) ↦{q} A.px) ∗ ((pyV).view.loc (thr d L) ↦{q} A.py) ∗ ((txV).view.loc (thr d L) ↦{q} A.tx)
    ∗ ((tyV).view.loc (thr d L) ↦{q} A.ty) ∗ ((igV).view.loc (thr d L) ↦{q} A.ig) ∗ ((ipV).view.loc (thr d L) ↦{q} A.ip))

set_option maxHeartbeats 40000000 in
theorem tile_body (hF : (K (F := F)).Facts) (hA : A.InRange) (q : PosShare TreeShare) (fo : Buf (Elt F) (oLoc d))
    (O : CellTallies nD τ sig (HIx 1)) (W : Waits sig (HIx 1)) (hO : ∀ g, O g none = 0) :
    iprop(levAts (K (F := F)).L (K (F := F)).lev ∗ emp
        ∗ (readShares d L A q ∗ oLoc d ↦[oRowSet (wV L)]{fullShare} fo)
        ∗ scopedBufs (thr d L) ∗ scopedSems0 (thr d L) ∗ owes (thr d L) O W)
      ⊢ wp frame (wpE (defs₀ (F := F)) 𝒱₀ (thr d L) none) Set.univ
          (cc1_body L pxV (Memref.isWhole_whole _) pyV (Memref.isWhole_whole _) txV (Memref.isWhole_whole _) tyV (Memref.isWhole_whole _)
            igV (Memref.isWhole_whole _) ipV (Memref.isWhole_whole _) oV (Memref.isWhole_whole _)
            ixV (Memref.isWhole_whole _) qxV (Memref.isWhole_whole _) qyV (Memref.isWhole_whole _) gxV (Memref.isWhole_whole _)
            gyV (Memref.isWhole_whole _) rwV (Memref.isWhole_whole _) cc1_scratch6 cc1_scoped0 cc1_scoped1 cc1_scoped2 cc1_scoped3
            cc1_scoped4 cc1_scoped5 cc1_scoped6 cc1_scoped7 cc1_scoped8 cc1_scoped9 cc1_scoped10 cc1_scoped11 cc1_scoped12)
          fun _ => iprop((readShares d L A q ∗ oLoc d ↦[oRowSet (wV L)]{fullShare} outSpec A)
            ∗ scopedBufs (thr d L) ∗ scopedSems0 (thr d L)
            ∗ ∃ W', ⌜∀ p ∈ W', p ∈ W ∨ p.2 = none⌝ ∗ owes (thr d L) O W') := by
  simp only [cc1_body_eq_skeleton]; unfold cc1_body_skel
  rw [(K (F := F)).scopedBufs_V hF d (cV L) (jV L), SparseCore.Cfg.scopedSems0_V (Val := Elt F) d (cV L) (jV L), ownSems0_tile, ownBufs_tile]
  iintro ⟨#Hlv, -, ⟨⟨Hpx, Hpy, Htx, Hty, Hig, Hip⟩, Ho⟩, ⟨⟨⟨%f0, H0⟩, ⟨%f1, H1⟩, ⟨%f2, H2⟩, ⟨%f3, H3⟩, ⟨%f4, H4⟩, ⟨%f5, H5⟩⟩, Hbufs⟩,
    ⟨⟨S0, S1, S2, S3, S4, S5, S6, S7, S8, S9, S10, S11, S12, S13⟩, Hsems⟩, HO⟩
  ihave Hmw := (show levAts (K (F := F)).L (K (F := F)).lev ⊢ Transfers.MayWaits (thr d L) (default : HIx 1) O from
    (K (F := F)).mayWaits_none (thr := thr d L) hO) $$ Hlv
  ihave H0 := (Entails.of_eq (show ((thr d L).loc cc1_scratch0 ↦{fullShare} f0 : sProp 𝕄) = (ixV).view.loc (thr d L) ↦{fullShare} f0 from rfl)) $$ H0
  ihave H1 := (Entails.of_eq (show ((thr d L).loc cc1_scratch1 ↦{fullShare} f1 : sProp 𝕄) = (qxV).view.loc (thr d L) ↦{fullShare} f1 from rfl)) $$ H1
  ihave H2 := (Entails.of_eq (show ((thr d L).loc cc1_scratch2 ↦{fullShare} f2 : sProp 𝕄) = (qyV).view.loc (thr d L) ↦{fullShare} f2 from rfl)) $$ H2
  ihave H3 := (Entails.of_eq (show ((thr d L).loc cc1_scratch3 ↦{fullShare} f3 : sProp 𝕄) = (gxV).view.loc (thr d L) ↦{fullShare} f3 from rfl)) $$ H3
  ihave H4 := (Entails.of_eq (show ((thr d L).loc cc1_scratch4 ↦{fullShare} f4 : sProp 𝕄) = (gyV).view.loc (thr d L) ↦{fullShare} f4 from rfl)) $$ H4
  ihave H5 := (Entails.of_eq (show ((thr d L).loc cc1_scratch5 ↦{fullShare} f5 : sProp 𝕄) = (rwV).view.loc (thr d L) ↦{fullShare} f5 from rfl)) $$ H5
  ihave Ho := (Entails.of_eq (pts_oRow (F := F) d L _).symm) $$ Ho
  sl_exec
  have hd_dma0 : tile_body.sl.dma0 L A = vec128 fun k => A.ig (at8192 (base L + (0 + k))) :=
    chunk_read L (igV).view A.ig 0 0 0#32 rfl rfl _
  have hl0 := list_inRange (pay := tile_body.sl.dma0 L A) (by rw [hd_dma0]; exact fun _ => hA.1 _)
  sl_exec
  have hd_dma32 : tile_body.sl.dma32 L A = vec128 fun k => A.ig (at8192 (base L + (128 + k))) :=
    chunk_read L (igV).view A.ig 128 1 128#32 rfl rfl _
  have hl1 := list_inRange (pay := tile_body.sl.dma32 L A) (by rw [hd_dma32]; exact fun _ => hA.1 _)
  sl_exec
  have hd_dma36 : tile_body.sl.dma36 L A = vec128 fun k => A.ip (at8192 (base L + (0 + k))) :=
    chunk_read L (ipV).view A.ip 0 0 0#32 rfl rfl _
  have hl2 := list_inRange (pay := tile_body.sl.dma36 L A) (by rw [hd_dma36]; exact fun _ => hA.2 _)
  sl_exec
  have hd_dma32_3 : tile_body.sl.dma32_3 L A = vec128 fun k => A.ip (at8192 (base L + (128 + k))) :=
    chunk_read L (ipV).view A.ip 128 1 128#32 rfl rfl _
  have hl3 := list_inRange (pay := tile_body.sl.dma32_3 L A) (by rw [hd_dma32_3]; exact fun _ => hA.2 _)
  sl_exec
  have hd_dma0_1 : tile_body.sl.dma0_1 L A = vec128 fun k => A.px (at8192 (base L + (0 + k))) :=
    chunk_read L (pxV).view A.px 0 0 0#32 rfl rfl _
  have hd_dma0_2 : tile_body.sl.dma0_2 L A = vec128 fun k => A.py (at8192 (base L + (0 + k))) :=
    chunk_read L (pyV).view A.py 0 0 0#32 rfl rfl _
  have hd_dma32_1 : tile_body.sl.dma32_1 L A = vec128 fun k => A.px (at8192 (base L + (128 + k))) :=
    chunk_read L (pxV).view A.px 128 1 128#32 rfl rfl _
  have hd_dma32_2 : tile_body.sl.dma32_2 L A = vec128 fun k => A.py (at8192 (base L + (128 + k))) :=
    chunk_read L (pyV).view A.py 128 1 128#32 rfl rfl _
  have hd_dma36_1 : tile_body.sl.dma36_1 L A = vec128 fun k => A.tx (at8192 (base L + (0 + k))) :=
    chunk_read L (txV).view A.tx 0 0 0#32 rfl rfl _
  have hd_dma36_2 : tile_body.sl.dma36_2 L A = vec128 fun k => A.ty (at8192 (base L + (0 + k))) :=
    chunk_read L (tyV).view A.ty 0 0 0#32 rfl rfl _
  have hd_dma32_4 : tile_body.sl.dma32_4 L A = vec128 fun k => A.tx (at8192 (base L + (128 + k))) :=
    chunk_read L (txV).view A.tx 128 1 128#32 rfl rfl _
  have hd_dma32_5 : tile_body.sl.dma32_5 L A = vec128 fun k => A.ty (at8192 (base L + (128 + k))) :=
    chunk_read L (tyV).view A.ty 128 1 128#32 rfl rfl _
  have hg_gather0 : tile_body.sl.gather0 d L A f0 hl0 = vec128 fun k => A.tx (at8192 (BitVec.toNat (A.ig (at8192 (base L + (0 + k)))))) := by
    unfold tile_body.sl.gather0
    exact gather_rows A.tx (table_read (txV).view A.tx _) _ hd_dma0 _ _ _
  have hg_gather0_1 : tile_body.sl.gather0_1 d L A f0 hl1 = vec128 fun k => A.tx (at8192 (BitVec.toNat (A.ig (at8192 (base L + (128 + k)))))) := by
    unfold tile_body.sl.gather0_1
    exact gather_rows A.tx (table_read (txV).view A.tx _) _ hd_dma32 _ _ _
  have hg_gather0_2 : tile_body.sl.gather0_2 d L A f0 hl2 = vec128 fun k => A.px (at8192 (BitVec.toNat (A.ip (at8192 (base L + (0 + k)))))) := by
    unfold tile_body.sl.gather0_2
    exact gather_rows A.px (table_read (pxV).view A.px _) _ hd_dma36 _ _ _
  have hg_gather0_3 : tile_body.sl.gather0_3 d L A f0 hl3 = vec128 fun k => A.px (at8192 (BitVec.toNat (A.ip (at8192 (base L + (128 + k)))))) := by
    unfold tile_body.sl.gather0_3
    exact gather_rows A.px (table_read (pxV).view A.px _) _ hd_dma32_3 _ _ _
  have hg_gather1 : tile_body.sl.gather1 d L A f0 hl0 = vec128 fun k => A.ty (at8192 (BitVec.toNat (A.ig (at8192 (base L + (0 + k)))))) := by
    unfold tile_body.sl.gather1
    exact gather_rows A.ty (table_read (tyV).view A.ty _) _ hd_dma0 _ _ _
  have hg_gather1_1 : tile_body.sl.gather1_1 d L A f0 hl1 = vec128 fun k => A.ty (at8192 (BitVec.toNat (A.ig (at8192 (base L + (128 + k)))))) := by
    unfold tile_body.sl.gather1_1
    exact gather_rows A.ty (table_read (tyV).view A.ty _) _ hd_dma32 _ _ _
  have hg_gather1_2 : tile_body.sl.gather1_2 d L A f0 hl2 = vec128 fun k => A.py (at8192 (BitVec.toNat (A.ip (at8192 (base L + (0 + k)))))) := by
    unfold tile_body.sl.gather1_2
    exact gather_rows A.py (table_read (pyV).view A.py _) _ hd_dma36 _ _ _
  have hg_gather1_3 : tile_body.sl.gather1_3 d L A f0 hl3 = vec128 fun k => A.py (at8192 (BitVec.toNat (A.ip (at8192 (base L + (128 + k)))))) := by
    unfold tile_body.sl.gather1_3
    exact gather_rows A.py (table_read (pyV).view A.py _) _ hd_dma32_3 _ _ _
  have hv_12 : tile_body.sl.v12 d L A f0 hl0 = vec16 fun k => A.tx (at8192 (BitVec.toNat (A.ig (at8192 (base L + (0 + (0 + k))))))) := by
    unfold tile_body.sl.v12; rw [hg_gather0]; exact ld_gx _ _ _
  have hv_19 : tile_body.sl.v19 d L A f0 hl0 = vec16 fun k => A.ty (at8192 (BitVec.toNat (A.ig (at8192 (base L + (0 + (0 + k))))))) := by
    unfold tile_body.sl.v19; rw [hg_gather1]; exact ld_gy _ _ _
  have hv_26 : tile_body.sl.v26 d L A f0 hl0 = vec16 fun k => A.tx (at8192 (BitVec.toNat (A.ig (at8192 (base L + (0 + (16 + k))))))) := by
    unfold tile_body.sl.v26; rw [hg_gather0]; exact ld_gx _ _ _
  have hv_33 : tile_body.sl.v33 d L A f0 hl0 = vec16 fun k => A.ty (at8192 (BitVec.toNat (A.ig (at8192 (base L + (0 + (16 + k))))))) := by
    unfold tile_body.sl.v33; rw [hg_gather1]; exact ld_gy _ _ _
  have hv_40 : tile_body.sl.v40 d L A f0 hl0 = vec16 fun k => A.tx (at8192 (BitVec.toNat (A.ig (at8192 (base L + (0 + (32 + k))))))) := by
    unfold tile_body.sl.v40; rw [hg_gather0]; exact ld_gx _ _ _
  have hv_47 : tile_body.sl.v47 d L A f0 hl0 = vec16 fun k => A.ty (at8192 (BitVec.toNat (A.ig (at8192 (base L + (0 + (32 + k))))))) := by
    unfold tile_body.sl.v47; rw [hg_gather1]; exact ld_gy _ _ _
  have hv_54 : tile_body.sl.v54 d L A f0 hl0 = vec16 fun k => A.tx (at8192 (BitVec.toNat (A.ig (at8192 (base L + (0 + (48 + k))))))) := by
    unfold tile_body.sl.v54; rw [hg_gather0]; exact ld_gx _ _ _
  have hv_61 : tile_body.sl.v61 d L A f0 hl0 = vec16 fun k => A.ty (at8192 (BitVec.toNat (A.ig (at8192 (base L + (0 + (48 + k))))))) := by
    unfold tile_body.sl.v61; rw [hg_gather1]; exact ld_gy _ _ _
  have hv_68 : tile_body.sl.v68 d L A f0 hl0 = vec16 fun k => A.tx (at8192 (BitVec.toNat (A.ig (at8192 (base L + (0 + (64 + k))))))) := by
    unfold tile_body.sl.v68; rw [hg_gather0]; exact ld_gx _ _ _
  have hv_75 : tile_body.sl.v75 d L A f0 hl0 = vec16 fun k => A.ty (at8192 (BitVec.toNat (A.ig (at8192 (base L + (0 + (64 + k))))))) := by
    unfold tile_body.sl.v75; rw [hg_gather1]; exact ld_gy _ _ _
  have hv_82 : tile_body.sl.v82 d L A f0 hl0 = vec16 fun k => A.tx (at8192 (BitVec.toNat (A.ig (at8192 (base L + (0 + (80 + k))))))) := by
    unfold tile_body.sl.v82; rw [hg_gather0]; exact ld_gx _ _ _
  have hv_89 : tile_body.sl.v89 d L A f0 hl0 = vec16 fun k => A.ty (at8192 (BitVec.toNat (A.ig (at8192 (base L + (0 + (80 + k))))))) := by
    unfold tile_body.sl.v89; rw [hg_gather1]; exact ld_gy _ _ _
  have hv_96 : tile_body.sl.v96 d L A f0 hl0 = vec16 fun k => A.tx (at8192 (BitVec.toNat (A.ig (at8192 (base L + (0 + (96 + k))))))) := by
    unfold tile_body.sl.v96; rw [hg_gather0]; exact ld_gx _ _ _
  have hv_103 : tile_body.sl.v103 d L A f0 hl0 = vec16 fun k => A.ty (at8192 (BitVec.toNat (A.ig (at8192 (base L + (0 + (96 + k))))))) := by
    unfold tile_body.sl.v103; rw [hg_gather1]; exact ld_gy _ _ _
  have hv_110 : tile_body.sl.v110 d L A f0 hl0 = vec16 fun k => A.tx (at8192 (BitVec.toNat (A.ig (at8192 (base L + (0 + (112 + k))))))) := by
    unfold tile_body.sl.v110; rw [hg_gather0]; exact ld_gx _ _ _
  have hv_117 : tile_body.sl.v117 d L A f0 hl0 = vec16 fun k => A.ty (at8192 (BitVec.toNat (A.ig (at8192 (base L + (0 + (112 + k))))))) := by
    unfold tile_body.sl.v117; rw [hg_gather1]; exact ld_gy _ _ _
  have hv_127 : tile_body.sl.v127 d L A f1 = vec16 fun k => A.px (at8192 (base L + (128 + (0 + k)))) := by
    unfold tile_body.sl.v127; rw [hd_dma32_1]; exact ld_qx _ _ _
  have hv_129 : tile_body.sl.v129 d L A f0 hl0 hl1 = vec16 fun k => A.tx (at8192 (BitVec.toNat (A.ig (at8192 (base L + (128 + (0 + k))))))) := by
    unfold tile_body.sl.v129; rw [hg_gather0_1]; exact ld_gx _ _ _
  have hv_134 : tile_body.sl.v134 d L A f2 = vec16 fun k => A.py (at8192 (base L + (128 + (0 + k)))) := by
    unfold tile_body.sl.v134; rw [hd_dma32_2]; exact ld_qy _ _ _
  have hv_136 : tile_body.sl.v136 d L A f0 hl0 hl1 = vec16 fun k => A.ty (at8192 (BitVec.toNat (A.ig (at8192 (base L + (128 + (0 + k))))))) := by
    unfold tile_body.sl.v136; rw [hg_gather1_1]; exact ld_gy _ _ _
  have hv_141 : tile_body.sl.v141 d L A f1 = vec16 fun k => A.px (at8192 (base L + (128 + (16 + k)))) := by
    unfold tile_body.sl.v141; rw [hd_dma32_1]; exact ld_qx _ _ _
  have hv_143 : tile_body.sl.v143 d L A f0 hl0 hl1 = vec16 fun k => A.tx (at8192 (BitVec.toNat (A.ig (at8192 (base L + (128 + (16 + k))))))) := by
    unfold tile_body.sl.v143; rw [hg_gather0_1]; exact ld_gx _ _ _
  have hv_148 : tile_body.sl.v148 d L A f2 = vec16 fun k => A.py (at8192 (base L + (128 + (16 + k)))) := by
    unfold tile_body.sl.v148; rw [hd_dma32_2]; exact ld_qy _ _ _
  have hv_150 : tile_body.sl.v150 d L A f0 hl0 hl1 = vec16 fun k => A.ty (at8192 (BitVec.toNat (A.ig (at8192 (base L + (128 + (16 + k))))))) := by
    unfold tile_body.sl.v150; rw [hg_gather1_1]; exact ld_gy _ _ _
  have hv_155 : tile_body.sl.v155 d L A f1 = vec16 fun k => A.px (at8192 (base L + (128 + (32 + k)))) := by
    unfold tile_body.sl.v155; rw [hd_dma32_1]; exact ld_qx _ _ _
  have hv_157 : tile_body.sl.v157 d L A f0 hl0 hl1 = vec16 fun k => A.tx (at8192 (BitVec.toNat (A.ig (at8192 (base L + (128 + (32 + k))))))) := by
    unfold tile_body.sl.v157; rw [hg_gather0_1]; exact ld_gx _ _ _
  have hv_162 : tile_body.sl.v162 d L A f2 = vec16 fun k => A.py (at8192 (base L + (128 + (32 + k)))) := by
    unfold tile_body.sl.v162; rw [hd_dma32_2]; exact ld_qy _ _ _
  have hv_164 : tile_body.sl.v164 d L A f0 hl0 hl1 = vec16 fun k => A.ty (at8192 (BitVec.toNat (A.ig (at8192 (base L + (128 + (32 + k))))))) := by
    unfold tile_body.sl.v164; rw [hg_gather1_1]; exact ld_gy _ _ _
  have hv_169 : tile_body.sl.v169 d L A f1 = vec16 fun k => A.px (at8192 (base L + (128 + (48 + k)))) := by
    unfold tile_body.sl.v169; rw [hd_dma32_1]; exact ld_qx _ _ _
  have hv_171 : tile_body.sl.v171 d L A f0 hl0 hl1 = vec16 fun k => A.tx (at8192 (BitVec.toNat (A.ig (at8192 (base L + (128 + (48 + k))))))) := by
    unfold tile_body.sl.v171; rw [hg_gather0_1]; exact ld_gx _ _ _
  have hv_176 : tile_body.sl.v176 d L A f2 = vec16 fun k => A.py (at8192 (base L + (128 + (48 + k)))) := by
    unfold tile_body.sl.v176; rw [hd_dma32_2]; exact ld_qy _ _ _
  have hv_178 : tile_body.sl.v178 d L A f0 hl0 hl1 = vec16 fun k => A.ty (at8192 (BitVec.toNat (A.ig (at8192 (base L + (128 + (48 + k))))))) := by
    unfold tile_body.sl.v178; rw [hg_gather1_1]; exact ld_gy _ _ _
  have hv_183 : tile_body.sl.v183 d L A f1 = vec16 fun k => A.px (at8192 (base L + (128 + (64 + k)))) := by
    unfold tile_body.sl.v183; rw [hd_dma32_1]; exact ld_qx _ _ _
  have hv_185 : tile_body.sl.v185 d L A f0 hl0 hl1 = vec16 fun k => A.tx (at8192 (BitVec.toNat (A.ig (at8192 (base L + (128 + (64 + k))))))) := by
    unfold tile_body.sl.v185; rw [hg_gather0_1]; exact ld_gx _ _ _
  have hv_190 : tile_body.sl.v190 d L A f2 = vec16 fun k => A.py (at8192 (base L + (128 + (64 + k)))) := by
    unfold tile_body.sl.v190; rw [hd_dma32_2]; exact ld_qy _ _ _
  have hv_192 : tile_body.sl.v192 d L A f0 hl0 hl1 = vec16 fun k => A.ty (at8192 (BitVec.toNat (A.ig (at8192 (base L + (128 + (64 + k))))))) := by
    unfold tile_body.sl.v192; rw [hg_gather1_1]; exact ld_gy _ _ _
  have hv_197 : tile_body.sl.v197 d L A f1 = vec16 fun k => A.px (at8192 (base L + (128 + (80 + k)))) := by
    unfold tile_body.sl.v197; rw [hd_dma32_1]; exact ld_qx _ _ _
  have hv_199 : tile_body.sl.v199 d L A f0 hl0 hl1 = vec16 fun k => A.tx (at8192 (BitVec.toNat (A.ig (at8192 (base L + (128 + (80 + k))))))) := by
    unfold tile_body.sl.v199; rw [hg_gather0_1]; exact ld_gx _ _ _
  have hv_204 : tile_body.sl.v204 d L A f2 = vec16 fun k => A.py (at8192 (base L + (128 + (80 + k)))) := by
    unfold tile_body.sl.v204; rw [hd_dma32_2]; exact ld_qy _ _ _
  have hv_206 : tile_body.sl.v206 d L A f0 hl0 hl1 = vec16 fun k => A.ty (at8192 (BitVec.toNat (A.ig (at8192 (base L + (128 + (80 + k))))))) := by
    unfold tile_body.sl.v206; rw [hg_gather1_1]; exact ld_gy _ _ _
  have hv_211 : tile_body.sl.v211 d L A f1 = vec16 fun k => A.px (at8192 (base L + (128 + (96 + k)))) := by
    unfold tile_body.sl.v211; rw [hd_dma32_1]; exact ld_qx _ _ _
  have hv_213 : tile_body.sl.v213 d L A f0 hl0 hl1 = vec16 fun k => A.tx (at8192 (BitVec.toNat (A.ig (at8192 (base L + (128 + (96 + k))))))) := by
    unfold tile_body.sl.v213; rw [hg_gather0_1]; exact ld_gx _ _ _
  have hv_218 : tile_body.sl.v218 d L A f2 = vec16 fun k => A.py (at8192 (base L + (128 + (96 + k)))) := by
    unfold tile_body.sl.v218; rw [hd_dma32_2]; exact ld_qy _ _ _
  have hv_220 : tile_body.sl.v220 d L A f0 hl0 hl1 = vec16 fun k => A.ty (at8192 (BitVec.toNat (A.ig (at8192 (base L + (128 + (96 + k))))))) := by
    unfold tile_body.sl.v220; rw [hg_gather1_1]; exact ld_gy _ _ _
  have hv_225 : tile_body.sl.v225 d L A f1 = vec16 fun k => A.px (at8192 (base L + (128 + (112 + k)))) := by
    unfold tile_body.sl.v225; rw [hd_dma32_1]; exact ld_qx _ _ _
  have hv_227 : tile_body.sl.v227 d L A f0 hl0 hl1 = vec16 fun k => A.tx (at8192 (BitVec.toNat (A.ig (at8192 (base L + (128 + (112 + k))))))) := by
    unfold tile_body.sl.v227; rw [hg_gather0_1]; exact ld_gx _ _ _
  have hv_232 : tile_body.sl.v232 d L A f2 = vec16 fun k => A.py (at8192 (base L + (128 + (112 + k)))) := by
    unfold tile_body.sl.v232; rw [hd_dma32_2]; exact ld_qy _ _ _
  have hv_234 : tile_body.sl.v234 d L A f0 hl0 hl1 = vec16 fun k => A.ty (at8192 (BitVec.toNat (A.ig (at8192 (base L + (128 + (112 + k))))))) := by
    unfold tile_body.sl.v234; rw [hg_gather1_1]; exact ld_gy _ _ _
  have hv_252 : tile_body.sl.v252 d L A f1 = vec16 fun k => A.tx (at8192 (base L + (0 + (0 + k)))) := by
    unfold tile_body.sl.v252; rw [hd_dma36_1]; exact ld_qx _ _ _
  have hv_254 : tile_body.sl.v254 d L A f0 hl0 hl1 hl2 = vec16 fun k => A.px (at8192 (BitVec.toNat (A.ip (at8192 (base L + (0 + (0 + k))))))) := by
    unfold tile_body.sl.v254; rw [hg_gather0_2]; exact ld_gx _ _ _
  have hv_259 : tile_body.sl.v259 d L A f2 = vec16 fun k => A.ty (at8192 (base L + (0 + (0 + k)))) := by
    unfold tile_body.sl.v259; rw [hd_dma36_2]; exact ld_qy _ _ _
  have hv_261 : tile_body.sl.v261 d L A f0 hl0 hl1 hl2 = vec16 fun k => A.py (at8192 (BitVec.toNat (A.ip (at8192 (base L + (0 + (0 + k))))))) := by
    unfold tile_body.sl.v261; rw [hg_gather1_2]; exact ld_gy _ _ _
  have hv_266 : tile_body.sl.v266 d L A f1 = vec16 fun k => A.tx (at8192 (base L + (0 + (16 + k)))) := by
    unfold tile_body.sl.v266; rw [hd_dma36_1]; exact ld_qx _ _ _
  have hv_268 : tile_body.sl.v268 d L A f0 hl0 hl1 hl2 = vec16 fun k => A.px (at8192 (BitVec.toNat (A.ip (at8192 (base L + (0 + (16 + k))))))) := by
    unfold tile_body.sl.v268; rw [hg_gather0_2]; exact ld_gx _ _ _
  have hv_273 : tile_body.sl.v273 d L A f2 = vec16 fun k => A.ty (at8192 (base L + (0 + (16 + k)))) := by
    unfold tile_body.sl.v273; rw [hd_dma36_2]; exact ld_qy _ _ _
  have hv_275 : tile_body.sl.v275 d L A f0 hl0 hl1 hl2 = vec16 fun k => A.py (at8192 (BitVec.toNat (A.ip (at8192 (base L + (0 + (16 + k))))))) := by
    unfold tile_body.sl.v275; rw [hg_gather1_2]; exact ld_gy _ _ _
  have hv_280 : tile_body.sl.v280 d L A f1 = vec16 fun k => A.tx (at8192 (base L + (0 + (32 + k)))) := by
    unfold tile_body.sl.v280; rw [hd_dma36_1]; exact ld_qx _ _ _
  have hv_282 : tile_body.sl.v282 d L A f0 hl0 hl1 hl2 = vec16 fun k => A.px (at8192 (BitVec.toNat (A.ip (at8192 (base L + (0 + (32 + k))))))) := by
    unfold tile_body.sl.v282; rw [hg_gather0_2]; exact ld_gx _ _ _
  have hv_287 : tile_body.sl.v287 d L A f2 = vec16 fun k => A.ty (at8192 (base L + (0 + (32 + k)))) := by
    unfold tile_body.sl.v287; rw [hd_dma36_2]; exact ld_qy _ _ _
  have hv_289 : tile_body.sl.v289 d L A f0 hl0 hl1 hl2 = vec16 fun k => A.py (at8192 (BitVec.toNat (A.ip (at8192 (base L + (0 + (32 + k))))))) := by
    unfold tile_body.sl.v289; rw [hg_gather1_2]; exact ld_gy _ _ _
  have hv_294 : tile_body.sl.v294 d L A f1 = vec16 fun k => A.tx (at8192 (base L + (0 + (48 + k)))) := by
    unfold tile_body.sl.v294; rw [hd_dma36_1]; exact ld_qx _ _ _
  have hv_296 : tile_body.sl.v296 d L A f0 hl0 hl1 hl2 = vec16 fun k => A.px (at8192 (BitVec.toNat (A.ip (at8192 (base L + (0 + (48 + k))))))) := by
    unfold tile_body.sl.v296; rw [hg_gather0_2]; exact ld_gx _ _ _
  have hv_301 : tile_body.sl.v301 d L A f2 = vec16 fun k => A.ty (at8192 (base L + (0 + (48 + k)))) := by
    unfold tile_body.sl.v301; rw [hd_dma36_2]; exact ld_qy _ _ _
  have hv_303 : tile_body.sl.v303 d L A f0 hl0 hl1 hl2 = vec16 fun k => A.py (at8192 (BitVec.toNat (A.ip (at8192 (base L + (0 + (48 + k))))))) := by
    unfold tile_body.sl.v303; rw [hg_gather1_2]; exact ld_gy _ _ _
  have hv_308 : tile_body.sl.v308 d L A f1 = vec16 fun k => A.tx (at8192 (base L + (0 + (64 + k)))) := by
    unfold tile_body.sl.v308; rw [hd_dma36_1]; exact ld_qx _ _ _
  have hv_310 : tile_body.sl.v310 d L A f0 hl0 hl1 hl2 = vec16 fun k => A.px (at8192 (BitVec.toNat (A.ip (at8192 (base L + (0 + (64 + k))))))) := by
    unfold tile_body.sl.v310; rw [hg_gather0_2]; exact ld_gx _ _ _
  have hv_315 : tile_body.sl.v315 d L A f2 = vec16 fun k => A.ty (at8192 (base L + (0 + (64 + k)))) := by
    unfold tile_body.sl.v315; rw [hd_dma36_2]; exact ld_qy _ _ _
  have hv_317 : tile_body.sl.v317 d L A f0 hl0 hl1 hl2 = vec16 fun k => A.py (at8192 (BitVec.toNat (A.ip (at8192 (base L + (0 + (64 + k))))))) := by
    unfold tile_body.sl.v317; rw [hg_gather1_2]; exact ld_gy _ _ _
  have hv_322 : tile_body.sl.v322 d L A f1 = vec16 fun k => A.tx (at8192 (base L + (0 + (80 + k)))) := by
    unfold tile_body.sl.v322; rw [hd_dma36_1]; exact ld_qx _ _ _
  have hv_324 : tile_body.sl.v324 d L A f0 hl0 hl1 hl2 = vec16 fun k => A.px (at8192 (BitVec.toNat (A.ip (at8192 (base L + (0 + (80 + k))))))) := by
    unfold tile_body.sl.v324; rw [hg_gather0_2]; exact ld_gx _ _ _
  have hv_329 : tile_body.sl.v329 d L A f2 = vec16 fun k => A.ty (at8192 (base L + (0 + (80 + k)))) := by
    unfold tile_body.sl.v329; rw [hd_dma36_2]; exact ld_qy _ _ _
  have hv_331 : tile_body.sl.v331 d L A f0 hl0 hl1 hl2 = vec16 fun k => A.py (at8192 (BitVec.toNat (A.ip (at8192 (base L + (0 + (80 + k))))))) := by
    unfold tile_body.sl.v331; rw [hg_gather1_2]; exact ld_gy _ _ _
  have hv_336 : tile_body.sl.v336 d L A f1 = vec16 fun k => A.tx (at8192 (base L + (0 + (96 + k)))) := by
    unfold tile_body.sl.v336; rw [hd_dma36_1]; exact ld_qx _ _ _
  have hv_338 : tile_body.sl.v338 d L A f0 hl0 hl1 hl2 = vec16 fun k => A.px (at8192 (BitVec.toNat (A.ip (at8192 (base L + (0 + (96 + k))))))) := by
    unfold tile_body.sl.v338; rw [hg_gather0_2]; exact ld_gx _ _ _
  have hv_343 : tile_body.sl.v343 d L A f2 = vec16 fun k => A.ty (at8192 (base L + (0 + (96 + k)))) := by
    unfold tile_body.sl.v343; rw [hd_dma36_2]; exact ld_qy _ _ _
  have hv_345 : tile_body.sl.v345 d L A f0 hl0 hl1 hl2 = vec16 fun k => A.py (at8192 (BitVec.toNat (A.ip (at8192 (base L + (0 + (96 + k))))))) := by
    unfold tile_body.sl.v345; rw [hg_gather1_2]; exact ld_gy _ _ _
  have hv_350 : tile_body.sl.v350 d L A f1 = vec16 fun k => A.tx (at8192 (base L + (0 + (112 + k)))) := by
    unfold tile_body.sl.v350; rw [hd_dma36_1]; exact ld_qx _ _ _
  have hv_352 : tile_body.sl.v352 d L A f0 hl0 hl1 hl2 = vec16 fun k => A.px (at8192 (BitVec.toNat (A.ip (at8192 (base L + (0 + (112 + k))))))) := by
    unfold tile_body.sl.v352; rw [hg_gather0_2]; exact ld_gx _ _ _
  have hv_357 : tile_body.sl.v357 d L A f2 = vec16 fun k => A.ty (at8192 (base L + (0 + (112 + k)))) := by
    unfold tile_body.sl.v357; rw [hd_dma36_2]; exact ld_qy _ _ _
  have hv_359 : tile_body.sl.v359 d L A f0 hl0 hl1 hl2 = vec16 fun k => A.py (at8192 (BitVec.toNat (A.ip (at8192 (base L + (0 + (112 + k))))))) := by
    unfold tile_body.sl.v359; rw [hg_gather1_2]; exact ld_gy _ _ _
  have hv_369 : tile_body.sl.v369 d L A f1 = vec16 fun k => A.tx (at8192 (base L + (128 + (0 + k)))) := by
    unfold tile_body.sl.v369; rw [hd_dma32_4]; exact ld_qx _ _ _
  have hv_371 : tile_body.sl.v371 d L A f0 hl0 hl1 hl2 hl3 = vec16 fun k => A.px (at8192 (BitVec.toNat (A.ip (at8192 (base L + (128 + (0 + k))))))) := by
    unfold tile_body.sl.v371; rw [hg_gather0_3]; exact ld_gx _ _ _
  have hv_376 : tile_body.sl.v376 d L A f2 = vec16 fun k => A.ty (at8192 (base L + (128 + (0 + k)))) := by
    unfold tile_body.sl.v376; rw [hd_dma32_5]; exact ld_qy _ _ _
  have hv_378 : tile_body.sl.v378 d L A f0 hl0 hl1 hl2 hl3 = vec16 fun k => A.py (at8192 (BitVec.toNat (A.ip (at8192 (base L + (128 + (0 + k))))))) := by
    unfold tile_body.sl.v378; rw [hg_gather1_3]; exact ld_gy _ _ _
  have hv_383 : tile_body.sl.v383 d L A f1 = vec16 fun k => A.tx (at8192 (base L + (128 + (16 + k)))) := by
    unfold tile_body.sl.v383; rw [hd_dma32_4]; exact ld_qx _ _ _
  have hv_385 : tile_body.sl.v385 d L A f0 hl0 hl1 hl2 hl3 = vec16 fun k => A.px (at8192 (BitVec.toNat (A.ip (at8192 (base L + (128 + (16 + k))))))) := by
    unfold tile_body.sl.v385; rw [hg_gather0_3]; exact ld_gx _ _ _
  have hv_390 : tile_body.sl.v390 d L A f2 = vec16 fun k => A.ty (at8192 (base L + (128 + (16 + k)))) := by
    unfold tile_body.sl.v390; rw [hd_dma32_5]; exact ld_qy _ _ _
  have hv_392 : tile_body.sl.v392 d L A f0 hl0 hl1 hl2 hl3 = vec16 fun k => A.py (at8192 (BitVec.toNat (A.ip (at8192 (base L + (128 + (16 + k))))))) := by
    unfold tile_body.sl.v392; rw [hg_gather1_3]; exact ld_gy _ _ _
  have hv_397 : tile_body.sl.v397 d L A f1 = vec16 fun k => A.tx (at8192 (base L + (128 + (32 + k)))) := by
    unfold tile_body.sl.v397; rw [hd_dma32_4]; exact ld_qx _ _ _
  have hv_399 : tile_body.sl.v399 d L A f0 hl0 hl1 hl2 hl3 = vec16 fun k => A.px (at8192 (BitVec.toNat (A.ip (at8192 (base L + (128 + (32 + k))))))) := by
    unfold tile_body.sl.v399; rw [hg_gather0_3]; exact ld_gx _ _ _
  have hv_404 : tile_body.sl.v404 d L A f2 = vec16 fun k => A.ty (at8192 (base L + (128 + (32 + k)))) := by
    unfold tile_body.sl.v404; rw [hd_dma32_5]; exact ld_qy _ _ _
  have hv_406 : tile_body.sl.v406 d L A f0 hl0 hl1 hl2 hl3 = vec16 fun k => A.py (at8192 (BitVec.toNat (A.ip (at8192 (base L + (128 + (32 + k))))))) := by
    unfold tile_body.sl.v406; rw [hg_gather1_3]; exact ld_gy _ _ _
  have hv_411 : tile_body.sl.v411 d L A f1 = vec16 fun k => A.tx (at8192 (base L + (128 + (48 + k)))) := by
    unfold tile_body.sl.v411; rw [hd_dma32_4]; exact ld_qx _ _ _
  have hv_413 : tile_body.sl.v413 d L A f0 hl0 hl1 hl2 hl3 = vec16 fun k => A.px (at8192 (BitVec.toNat (A.ip (at8192 (base L + (128 + (48 + k))))))) := by
    unfold tile_body.sl.v413; rw [hg_gather0_3]; exact ld_gx _ _ _
  have hv_418 : tile_body.sl.v418 d L A f2 = vec16 fun k => A.ty (at8192 (base L + (128 + (48 + k)))) := by
    unfold tile_body.sl.v418; rw [hd_dma32_5]; exact ld_qy _ _ _
  have hv_420 : tile_body.sl.v420 d L A f0 hl0 hl1 hl2 hl3 = vec16 fun k => A.py (at8192 (BitVec.toNat (A.ip (at8192 (base L + (128 + (48 + k))))))) := by
    unfold tile_body.sl.v420; rw [hg_gather1_3]; exact ld_gy _ _ _
  have hv_425 : tile_body.sl.v425 d L A f1 = vec16 fun k => A.tx (at8192 (base L + (128 + (64 + k)))) := by
    unfold tile_body.sl.v425; rw [hd_dma32_4]; exact ld_qx _ _ _
  have hv_427 : tile_body.sl.v427 d L A f0 hl0 hl1 hl2 hl3 = vec16 fun k => A.px (at8192 (BitVec.toNat (A.ip (at8192 (base L + (128 + (64 + k))))))) := by
    unfold tile_body.sl.v427; rw [hg_gather0_3]; exact ld_gx _ _ _
  have hv_432 : tile_body.sl.v432 d L A f2 = vec16 fun k => A.ty (at8192 (base L + (128 + (64 + k)))) := by
    unfold tile_body.sl.v432; rw [hd_dma32_5]; exact ld_qy _ _ _
  have hv_434 : tile_body.sl.v434 d L A f0 hl0 hl1 hl2 hl3 = vec16 fun k => A.py (at8192 (BitVec.toNat (A.ip (at8192 (base L + (128 + (64 + k))))))) := by
    unfold tile_body.sl.v434; rw [hg_gather1_3]; exact ld_gy _ _ _
  have hv_439 : tile_body.sl.v439 d L A f1 = vec16 fun k => A.tx (at8192 (base L + (128 + (80 + k)))) := by
    unfold tile_body.sl.v439; rw [hd_dma32_4]; exact ld_qx _ _ _
  have hv_441 : tile_body.sl.v441 d L A f0 hl0 hl1 hl2 hl3 = vec16 fun k => A.px (at8192 (BitVec.toNat (A.ip (at8192 (base L + (128 + (80 + k))))))) := by
    unfold tile_body.sl.v441; rw [hg_gather0_3]; exact ld_gx _ _ _
  have hv_446 : tile_body.sl.v446 d L A f2 = vec16 fun k => A.ty (at8192 (base L + (128 + (80 + k)))) := by
    unfold tile_body.sl.v446; rw [hd_dma32_5]; exact ld_qy _ _ _
  have hv_448 : tile_body.sl.v448 d L A f0 hl0 hl1 hl2 hl3 = vec16 fun k => A.py (at8192 (BitVec.toNat (A.ip (at8192 (base L + (128 + (80 + k))))))) := by
    unfold tile_body.sl.v448; rw [hg_gather1_3]; exact ld_gy _ _ _
  have hv_453 : tile_body.sl.v453 d L A f1 = vec16 fun k => A.tx (at8192 (base L + (128 + (96 + k)))) := by
    unfold tile_body.sl.v453; rw [hd_dma32_4]; exact ld_qx _ _ _
  have hv_455 : tile_body.sl.v455 d L A f0 hl0 hl1 hl2 hl3 = vec16 fun k => A.px (at8192 (BitVec.toNat (A.ip (at8192 (base L + (128 + (96 + k))))))) := by
    unfold tile_body.sl.v455; rw [hg_gather0_3]; exact ld_gx _ _ _
  have hv_460 : tile_body.sl.v460 d L A f2 = vec16 fun k => A.ty (at8192 (base L + (128 + (96 + k)))) := by
    unfold tile_body.sl.v460; rw [hd_dma32_5]; exact ld_qy _ _ _
  have hv_462 : tile_body.sl.v462 d L A f0 hl0 hl1 hl2 hl3 = vec16 fun k => A.py (at8192 (BitVec.toNat (A.ip (at8192 (base L + (128 + (96 + k))))))) := by
    unfold tile_body.sl.v462; rw [hg_gather1_3]; exact ld_gy _ _ _
  have hv_467 : tile_body.sl.v467 d L A f1 = vec16 fun k => A.tx (at8192 (base L + (128 + (112 + k)))) := by
    unfold tile_body.sl.v467; rw [hd_dma32_4]; exact ld_qx _ _ _
  have hv_469 : tile_body.sl.v469 d L A f0 hl0 hl1 hl2 hl3 = vec16 fun k => A.px (at8192 (BitVec.toNat (A.ip (at8192 (base L + (128 + (112 + k))))))) := by
    unfold tile_body.sl.v469; rw [hg_gather0_3]; exact ld_gx _ _ _
  have hv_474 : tile_body.sl.v474 d L A f2 = vec16 fun k => A.ty (at8192 (base L + (128 + (112 + k)))) := by
    unfold tile_body.sl.v474; rw [hd_dma32_5]; exact ld_qy _ _ _
  have hv_476 : tile_body.sl.v476 d L A f0 hl0 hl1 hl2 hl3 = vec16 fun k => A.py (at8192 (BitVec.toNat (A.ip (at8192 (base L + (128 + (112 + k))))))) := by
    unfold tile_body.sl.v476; rw [hg_gather1_3]; exact ld_gy _ _ _
  have hG : tile_body.sl.dma36_3 d L A f0 f1 f2 f5 hl0 hl1 hl2 hl3 = rowOf A L := by
    have e0 : k1_pay20 (tile_body.sl.r_14 d L A f0 f1 hl0 hl1) = rowLanes A (base L) 0 := by
      delta
        tile_body.sl.r tile_body.sl.r_1 tile_body.sl.r_10 tile_body.sl.r_11 tile_body.sl.r_12 tile_body.sl.r_13 tile_body.sl.r_14
        tile_body.sl.r_15 tile_body.sl.r_16 tile_body.sl.r_17 tile_body.sl.r_18 tile_body.sl.r_19 tile_body.sl.r_2 tile_body.sl.r_20
        tile_body.sl.r_21 tile_body.sl.r_22 tile_body.sl.r_23 tile_body.sl.r_24 tile_body.sl.r_25 tile_body.sl.r_26 tile_body.sl.r_27
        tile_body.sl.r_28 tile_body.sl.r_29 tile_body.sl.r_3 tile_body.sl.r_30 tile_body.sl.r_31 tile_body.sl.r_32 tile_body.sl.r_4
        tile_body.sl.r_5 tile_body.sl.r_6 tile_body.sl.r_7 tile_body.sl.r_8 tile_body.sl.r_9
      simp only [
        k1_pay1, k1_pay2, k1_pay3, k1_pay4, k1_pay5, k1_pay6, k1_pay7, k1_pay8, k1_pay9, k1_pay10, k1_pay11, k1_pay12, k1_pay13, k1_pay14, k1_pay15,
        k1_pay16, k1_pay17, k1_pay18, k1_pay19, k1_pay20, k1_pay21, k1_pay22, k1_pay23, k1_pay24, k1_pay25, k1_pay26, k1_pay27, k1_pay28, k1_pay29,
        k1_pay30, k1_pay31, k1_pay32, k1_pay33, k1_pay34, k1_pay35, k1_pay36, k1_pay37, k1_pay38, shapeCast_id]
      simp only [
        hv_12, hv_19, hv_26, hv_33, hv_40, hv_47, hv_54, hv_61, hv_68, hv_75, hv_82, hv_89, hv_96, hv_103, hv_110, hv_117, hv_127, hv_129, hv_134,
        hv_136, hv_141, hv_143, hv_148, hv_150, hv_155, hv_157, hv_162, hv_164, hv_169, hv_171, hv_176, hv_178, hv_183, hv_185, hv_190, hv_192, hv_197,
        hv_199, hv_204, hv_206, hv_211, hv_213, hv_218, hv_220, hv_225, hv_227, hv_232, hv_234, hv_252, hv_254, hv_259, hv_261, hv_266, hv_268, hv_273,
        hv_275, hv_280, hv_282, hv_287, hv_289, hv_294, hv_296, hv_301, hv_303, hv_308, hv_310, hv_315, hv_317, hv_322, hv_324, hv_329, hv_331, hv_336,
        hv_338, hv_343, hv_345, hv_350, hv_352, hv_357, hv_359, hv_369, hv_371, hv_376, hv_378, hv_383, hv_385, hv_390, hv_392, hv_397, hv_399, hv_404,
        hv_406, hv_411, hv_413, hv_418, hv_420, hv_425, hv_427, hv_432, hv_434, hv_439, hv_441, hv_446, hv_448, hv_453, hv_455, hv_460, hv_462, hv_467,
        hv_469, hv_474, hv_476, hd_dma0_1, rowLanes, lanes, List.foldl]
      iterate 8 refine congrArg₂ addf ?_ rfl
      iterate 8 refine congrArg₂ addf ?_ (congrArg absf (congrArg₂ subf (ld_qx _ _ _) rfl))
      rfl
    have e1 : k1_pay21 (tile_body.sl.r_13 d L A f0 f2 hl0 hl1) (tile_body.sl.r_15 d L A f2) (tile_body.sl.r_16 d L A f0 hl0 hl1)
        = rowLanes A (base L) 1 := by
      delta
        tile_body.sl.r tile_body.sl.r_1 tile_body.sl.r_10 tile_body.sl.r_11 tile_body.sl.r_12 tile_body.sl.r_13 tile_body.sl.r_14
        tile_body.sl.r_15 tile_body.sl.r_16 tile_body.sl.r_17 tile_body.sl.r_18 tile_body.sl.r_19 tile_body.sl.r_2 tile_body.sl.r_20
        tile_body.sl.r_21 tile_body.sl.r_22 tile_body.sl.r_23 tile_body.sl.r_24 tile_body.sl.r_25 tile_body.sl.r_26 tile_body.sl.r_27
        tile_body.sl.r_28 tile_body.sl.r_29 tile_body.sl.r_3 tile_body.sl.r_30 tile_body.sl.r_31 tile_body.sl.r_32 tile_body.sl.r_4
        tile_body.sl.r_5 tile_body.sl.r_6 tile_body.sl.r_7 tile_body.sl.r_8 tile_body.sl.r_9
      simp only [
        k1_pay1, k1_pay2, k1_pay3, k1_pay4, k1_pay5, k1_pay6, k1_pay7, k1_pay8, k1_pay9, k1_pay10, k1_pay11, k1_pay12, k1_pay13, k1_pay14, k1_pay15,
        k1_pay16, k1_pay17, k1_pay18, k1_pay19, k1_pay20, k1_pay21, k1_pay22, k1_pay23, k1_pay24, k1_pay25, k1_pay26, k1_pay27, k1_pay28, k1_pay29,
        k1_pay30, k1_pay31, k1_pay32, k1_pay33, k1_pay34, k1_pay35, k1_pay36, k1_pay37, k1_pay38, shapeCast_id]
      simp only [
        hv_12, hv_19, hv_26, hv_33, hv_40, hv_47, hv_54, hv_61, hv_68, hv_75, hv_82, hv_89, hv_96, hv_103, hv_110, hv_117, hv_127, hv_129, hv_134,
        hv_136, hv_141, hv_143, hv_148, hv_150, hv_155, hv_157, hv_162, hv_164, hv_169, hv_171, hv_176, hv_178, hv_183, hv_185, hv_190, hv_192, hv_197,
        hv_199, hv_204, hv_206, hv_211, hv_213, hv_218, hv_220, hv_225, hv_227, hv_232, hv_234, hv_252, hv_254, hv_259, hv_261, hv_266, hv_268, hv_273,
        hv_275, hv_280, hv_282, hv_287, hv_289, hv_294, hv_296, hv_301, hv_303, hv_308, hv_310, hv_315, hv_317, hv_322, hv_324, hv_329, hv_331, hv_336,
        hv_338, hv_343, hv_345, hv_350, hv_352, hv_357, hv_359, hv_369, hv_371, hv_376, hv_378, hv_383, hv_385, hv_390, hv_392, hv_397, hv_399, hv_404,
        hv_406, hv_411, hv_413, hv_418, hv_420, hv_425, hv_427, hv_432, hv_434, hv_439, hv_441, hv_446, hv_448, hv_453, hv_455, hv_460, hv_462, hv_467,
        hv_469, hv_474, hv_476, hd_dma0_2, rowLanes, lanes, List.foldl]
      iterate 8 refine congrArg₂ addf ?_ rfl
      iterate 8 refine congrArg₂ addf ?_ (congrArg absf (congrArg₂ subf (ld_qy _ _ _) rfl))
      rfl
    have e2 : k1_pay1 (tile_body.sl.r_32 d L A f0 f1 hl0 hl1 hl2 hl3) = rowLanes A (base L) 2 := by
      delta
        tile_body.sl.r tile_body.sl.r_1 tile_body.sl.r_10 tile_body.sl.r_11 tile_body.sl.r_12 tile_body.sl.r_13 tile_body.sl.r_14
        tile_body.sl.r_15 tile_body.sl.r_16 tile_body.sl.r_17 tile_body.sl.r_18 tile_body.sl.r_19 tile_body.sl.r_2 tile_body.sl.r_20
        tile_body.sl.r_21 tile_body.sl.r_22 tile_body.sl.r_23 tile_body.sl.r_24 tile_body.sl.r_25 tile_body.sl.r_26 tile_body.sl.r_27
        tile_body.sl.r_28 tile_body.sl.r_29 tile_body.sl.r_3 tile_body.sl.r_30 tile_body.sl.r_31 tile_body.sl.r_32 tile_body.sl.r_4
        tile_body.sl.r_5 tile_body.sl.r_6 tile_body.sl.r_7 tile_body.sl.r_8 tile_body.sl.r_9
      simp only [
        k1_pay1, k1_pay2, k1_pay3, k1_pay4, k1_pay5, k1_pay6, k1_pay7, k1_pay8, k1_pay9, k1_pay10, k1_pay11, k1_pay12, k1_pay13, k1_pay14, k1_pay15,
        k1_pay16, k1_pay17, k1_pay18, k1_pay19, k1_pay20, k1_pay21, k1_pay22, k1_pay23, k1_pay24, k1_pay25, k1_pay26, k1_pay27, k1_pay28, k1_pay29,
        k1_pay30, k1_pay31, k1_pay32, k1_pay33, k1_pay34, k1_pay35, k1_pay36, k1_pay37, k1_pay38, shapeCast_id]
      simp only [
        hv_12, hv_19, hv_26, hv_33, hv_40, hv_47, hv_54, hv_61, hv_68, hv_75, hv_82, hv_89, hv_96, hv_103, hv_110, hv_117, hv_127, hv_129, hv_134,
        hv_136, hv_141, hv_143, hv_148, hv_150, hv_155, hv_157, hv_162, hv_164, hv_169, hv_171, hv_176, hv_178, hv_183, hv_185, hv_190, hv_192, hv_197,
        hv_199, hv_204, hv_206, hv_211, hv_213, hv_218, hv_220, hv_225, hv_227, hv_232, hv_234, hv_252, hv_254, hv_259, hv_261, hv_266, hv_268, hv_273,
        hv_275, hv_280, hv_282, hv_287, hv_289, hv_294, hv_296, hv_301, hv_303, hv_308, hv_310, hv_315, hv_317, hv_322, hv_324, hv_329, hv_331, hv_336,
        hv_338, hv_343, hv_345, hv_350, hv_352, hv_357, hv_359, hv_369, hv_371, hv_376, hv_378, hv_383, hv_385, hv_390, hv_392, hv_397, hv_399, hv_404,
        hv_406, hv_411, hv_413, hv_418, hv_420, hv_425, hv_427, hv_432, hv_434, hv_439, hv_441, hv_446, hv_448, hv_453, hv_455, hv_460, hv_462, hv_467,
        hv_469, hv_474, hv_476, rowLanes, lanes, List.foldl]
    have e3 : k1_pay2 (tile_body.sl.r_31 d L A f0 f2 hl0 hl1 hl2 hl3) (tile_body.sl.v474 d L A f2) (tile_body.sl.v476 d L A f0 hl0 hl1 hl2 hl3)
        = rowLanes A (base L) 3 := by
      delta
        tile_body.sl.r tile_body.sl.r_1 tile_body.sl.r_10 tile_body.sl.r_11 tile_body.sl.r_12 tile_body.sl.r_13 tile_body.sl.r_14
        tile_body.sl.r_15 tile_body.sl.r_16 tile_body.sl.r_17 tile_body.sl.r_18 tile_body.sl.r_19 tile_body.sl.r_2 tile_body.sl.r_20
        tile_body.sl.r_21 tile_body.sl.r_22 tile_body.sl.r_23 tile_body.sl.r_24 tile_body.sl.r_25 tile_body.sl.r_26 tile_body.sl.r_27
        tile_body.sl.r_28 tile_body.sl.r_29 tile_body.sl.r_3 tile_body.sl.r_30 tile_body.sl.r_31 tile_body.sl.r_32 tile_body.sl.r_4
        tile_body.sl.r_5 tile_body.sl.r_6 tile_body.sl.r_7 tile_body.sl.r_8 tile_body.sl.r_9
      simp only [
        k1_pay1, k1_pay2, k1_pay3, k1_pay4, k1_pay5, k1_pay6, k1_pay7, k1_pay8, k1_pay9, k1_pay10, k1_pay11, k1_pay12, k1_pay13, k1_pay14, k1_pay15,
        k1_pay16, k1_pay17, k1_pay18, k1_pay19, k1_pay20, k1_pay21, k1_pay22, k1_pay23, k1_pay24, k1_pay25, k1_pay26, k1_pay27, k1_pay28, k1_pay29,
        k1_pay30, k1_pay31, k1_pay32, k1_pay33, k1_pay34, k1_pay35, k1_pay36, k1_pay37, k1_pay38, shapeCast_id]
      simp only [
        hv_12, hv_19, hv_26, hv_33, hv_40, hv_47, hv_54, hv_61, hv_68, hv_75, hv_82, hv_89, hv_96, hv_103, hv_110, hv_117, hv_127, hv_129, hv_134,
        hv_136, hv_141, hv_143, hv_148, hv_150, hv_155, hv_157, hv_162, hv_164, hv_169, hv_171, hv_176, hv_178, hv_183, hv_185, hv_190, hv_192, hv_197,
        hv_199, hv_204, hv_206, hv_211, hv_213, hv_218, hv_220, hv_225, hv_227, hv_232, hv_234, hv_252, hv_254, hv_259, hv_261, hv_266, hv_268, hv_273,
        hv_275, hv_280, hv_282, hv_287, hv_289, hv_294, hv_296, hv_301, hv_303, hv_308, hv_310, hv_315, hv_317, hv_322, hv_324, hv_329, hv_331, hv_336,
        hv_338, hv_343, hv_345, hv_350, hv_352, hv_357, hv_359, hv_369, hv_371, hv_376, hv_378, hv_383, hv_385, hv_390, hv_392, hv_397, hv_399, hv_404,
        hv_406, hv_411, hv_413, hv_418, hv_420, hv_425, hv_427, hv_432, hv_434, hv_439, hv_441, hv_446, hv_448, hv_453, hv_455, hv_460, hv_462, hv_467,
        hv_469, hv_474, hv_476, rowLanes, lanes, List.foldl]
    funext y
    have hy : (y 0).val < 64 := (y 0).isLt
    refine View.read_writes_apply_of_pieces (v := (rwV).view) (f := f5) (rowOf A L) (tile_body.sl.H5_4 d L A f0 f1 f2 hl0 hl1 hl2 hl3) ?_ y ?_
    · unfold tile_body.sl.H5_4
      rw [e0, e1, e2, e3]
      intro p hp x
      simp only [List.mem_cons, List.not_mem_nil, or_false] at hp
      rcases hp with rfl | rfl | rfl | rfl
      · exact rowOf_emb L A 3 inb_S64_S16_48 x
      · exact rowOf_emb L A 2 inb_S64_S16_32 x
      · exact rowOf_emb L A 1 inb_S64_S16_16 x
      · exact rowOf_emb L A 0 inb_S64_S16_0 x
    · unfold tile_body.sl.H5_4
      by_cases h1 : (y 0).val < 16
      · exact ⟨_, .tail _ (.tail _ (.tail _ (.head _))), by rw [Rect.mem_set_unit]; intro a; match a with | 0 => exact ⟨Nat.zero_le _, h1⟩⟩
      by_cases h2 : (y 0).val < 32
      · exact ⟨_, .tail _ (.tail _ (.head _)), by rw [Rect.mem_set_unit]; intro a; match a with | 0 => exact ⟨Nat.not_lt.mp h1, h2⟩⟩
      by_cases h3 : (y 0).val < 48
      · exact ⟨_, .tail _ (.head _), by rw [Rect.mem_set_unit]; intro a; match a with | 0 => exact ⟨Nat.not_lt.mp h2, h3⟩⟩
      · exact ⟨_, .head _, by rw [Rect.mem_set_unit]; intro a; match a with | 0 => exact ⟨Nat.not_lt.mp h3, hy⟩⟩
  sl_step
  isplitl [Hpx Hpy Htx Hty Hig Hip Ho]
  · isplitl [Hpx Hpy Htx Hty Hig Hip]
    · isplitl [Hpx]; · iexact Hpx
      isplitl [Hpy]; · iexact Hpy
      isplitl [Htx]; · iexact Htx
      isplitl [Hty]; · iexact Hty
      isplitl [Hig]; · iexact Hig
      iexact Hip
    · rw [hG]
      iapply (Entails.of_eq (row_out (F := F) d L A fo))
      iexact Ho
  isplitl [H0 H1 H2 H3 H4 H5 Hbufs]
  · isplitl [H0 H1 H2 H3 H4 H5]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    iexact Hbufs
  isplitl [S0 S1 S2 S3 S4 S5 S6 S7 S8 S9 S10 S11 S12 S13 Hsems]
  · isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    iexact Hsems
  iexists _; isplitr
  swap; · iexact HO
  ipureintro; intro p hp
  iterate 21 (rcases Finset.mem_insert.mp hp with hp | hp; · exact .inr (hp ▸ rfl))
  exact .inl hp

end Tile

end Cert.Proof.Chamfer

end
-- ==== Proof.Cores.lean ====
/-
  What the two SparseCores' call is handed and hands back: to each core half of the six arrays that every tile reads and
  the sixteen rows of the output that its tiles write, to each tile a sixteenth of that half and its own row. The tile's
  proof meets the launch's obligation for it, and a core's part is its tiles' parts.
-/
module

public import proofs.«01_k».proof.Proof.Tile

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pxV" => (Memref.whole Cert.KernelIdeal.main_v11_scv : Memref Cert.KernelIdeal.sig Kind.scVector Space.hbm Cert.KernelIdeal.S8192 EltTy.f32)
local notation "pyV" => (Memref.whole Cert.KernelIdeal.main_v13_scv : Memref Cert.KernelIdeal.sig Kind.scVector Space.hbm Cert.KernelIdeal.S8192 EltTy.f32)
local notation "txV" => (Memref.whole Cert.KernelIdeal.main_v15_scv : Memref Cert.KernelIdeal.sig Kind.scVector Space.hbm Cert.KernelIdeal.S8192 EltTy.f32)
local notation "tyV" => (Memref.whole Cert.KernelIdeal.main_v17_scv : Memref Cert.KernelIdeal.sig Kind.scVector Space.hbm Cert.KernelIdeal.S8192 EltTy.f32)
local notation "igV" => (Memref.whole Cert.KernelIdeal.main_v19_scv : Memref Cert.KernelIdeal.sig Kind.scVector Space.hbm Cert.KernelIdeal.S8192 EltTy.i32)
local notation "ipV" => (Memref.whole Cert.KernelIdeal.main_v21_scv : Memref Cert.KernelIdeal.sig Kind.scVector Space.hbm Cert.KernelIdeal.S8192 EltTy.i32)
local notation "oV" => (Memref.whole Cert.KernelIdeal.main_v22_scv : Memref Cert.KernelIdeal.sig Kind.scVector Space.hbm Cert.KernelIdeal.S32x64 EltTy.f32)
local notation "ixV" => (Memref.whole Cert.KernelIdeal.cc1_scratch0 : Memref Cert.KernelIdeal.sig Kind.scVector Space.vmem Cert.KernelIdeal.S128 EltTy.i32)
local notation "qxV" => (Memref.whole Cert.KernelIdeal.cc1_scratch1 : Memref Cert.KernelIdeal.sig Kind.scVector Space.vmem Cert.KernelIdeal.S128 EltTy.f32)
local notation "qyV" => (Memref.whole Cert.KernelIdeal.cc1_scratch2 : Memref Cert.KernelIdeal.sig Kind.scVector Space.vmem Cert.KernelIdeal.S128 EltTy.f32)
local notation "gxV" => (Memref.whole Cert.KernelIdeal.cc1_scratch3 : Memref Cert.KernelIdeal.sig Kind.scVector Space.vmem Cert.KernelIdeal.S128 EltTy.f32)
local notation "gyV" => (Memref.whole Cert.KernelIdeal.cc1_scratch4 : Memref Cert.KernelIdeal.sig Kind.scVector Space.vmem Cert.KernelIdeal.S128 EltTy.f32)
local notation "rwV" => (Memref.whole Cert.KernelIdeal.cc1_scratch5 : Memref Cert.KernelIdeal.sig Kind.scVector Space.vmem Cert.KernelIdeal.S64 EltTy.f32)

variable [FloatOps F]

/-- The six arrays as @main's thread names them, each at share `q`. -/
abbrev reads (d : Dev nD) (A : Ins F) (q : PosShare TreeShare) : sProp 𝕄 :=
  iprop((((SparseCore.T d : Thread nD τ).loc main_v11) ↦{q} A.px) ∗ (((SparseCore.T d : Thread nD τ).loc main_v13) ↦{q} A.py)
    ∗ (((SparseCore.T d : Thread nD τ).loc main_v15) ↦{q} A.tx) ∗ (((SparseCore.T d : Thread nD τ).loc main_v17) ↦{q} A.ty)
    ∗ (((SparseCore.T d : Thread nD τ).loc main_v19) ↦{q} A.ig) ∗ (((SparseCore.T d : Thread nD τ).loc main_v21) ↦{q} A.ip))

/-- Tile `s` of core `c` writes row `2 s + c`. -/
def wOf (c : Fin 2) (s : Fin 16) : Fin 32 := ⟨2 * s.val + c.val, by omega⟩
/-- That row of the output, at `f`. -/
abbrev rowAt (d : Dev nD) (f : Buf (Elt F) (oLoc d)) (c : Fin 2) (s : Fin 16) : sProp 𝕄 :=
  oLoc d ↦[oRowSet (wOf c s)]{fullShare} f

/-! ## Shares -/

theorem reads_pieces (d : Dev nD) (A : Ins F) (n : ℕ) (q : PosShare TreeShare) :
    (reads d A q : sProp 𝕄) = bigSep Finset.univ fun i : Fin (2 ^ n) => reads d A (piece n q i) := by
  unfold reads
  rw [bigSep_sep', bigSep_sep', bigSep_sep', bigSep_sep', bigSep_sep',
    ← pointsTo_pieces, ← pointsTo_pieces, ← pointsTo_pieces, ← pointsTo_pieces, ← pointsTo_pieces, ← pointsTo_pieces]

omit [FloatOps F] in
theorem oRowSet_eq (w : Fin 32) : oRowSet w = (orow w).set := by
  show ((View.whole (main_v22_scv : Ref sig .scVector)).slice (orow w)).set = _
  rw [View.set_slice]; exact Finset.map_refl

omit [FloatOps F] in
/-- The output whole is the rows of the two cores' tiles. -/
theorem out_rows (d : Dev nD) (f : Buf (Elt F) (oLoc d)) :
    (oLoc d ↦{fullShare} f : sProp 𝕄) = bigSep Finset.univ fun c : Fin 2 => bigSep Finset.univ fun s : Fin 16 => rowAt d f c s := by
  have hd : ∀ i ∈ (Finset.univ : Finset (Fin 32)), ∀ j ∈ (Finset.univ : Finset (Fin 32)), i ≠ j → Disjoint (oRowSet i) (oRowSet j) :=
    fun i _ j _ h => by rw [oRowSet_eq, oRowSet_eq]; exact Rect.part_disjoint odiv h
  have hc : (Finset.univ : Finset (Fin 32)).biUnion oRowSet = Finset.univ :=
    (Finset.biUnion_congr rfl fun i _ => oRowSet_eq i).trans (Rect.biUnion_part odiv)
  have h1 : (oLoc d ↦{fullShare} f : sProp 𝕄) = bigSep Finset.univ fun w : Fin 32 => oLoc d ↦[oRowSet w]{fullShare} f := by
    rw [← pointsTo_biUnion Finset.univ (ℓ := oLoc d) oRowSet hd, hc]; try rfl
  rw [h1, bigSep_univ_equiv ((Equiv.prodComm (Fin 2) (Fin 16)).trans (finProdFinEquiv (m := 16) (n := 2))) (fun w : Fin 32 => (oLoc d ↦[oRowSet w]{fullShare} f : sProp 𝕄)),
    bigSep_univ_prod]
  refine bigSep_congr fun c _ => bigSep_congr fun s _ => ?_
  have hw : (((Equiv.prodComm (Fin 2) (Fin 16)).trans (finProdFinEquiv (m := 16) (n := 2))) (c, s) : Fin 32) = wOf c s := Fin.ext (by show c.val + 2 * s.val = 2 * s.val + c.val; omega)
  rw [hw]

/-! ## The payloads -/

theorem nCore_zero : (K (F := F)).nCore 0 = 2 := rfl
theorem nSub_zero : (K (F := F)).nSub 0 = 16 := rfl

variable (A : Dev nD → Ins F) (f0 : (d : Dev nD) → Buf (Elt F) (oLoc d))

/-- A core's part and a tile's, the output rows at `f`. -/
abbrev corePart (d : Dev nD) (f : Buf (Elt F) (oLoc d)) (c : Fin 2) : sProp 𝕄 :=
  iprop(reads d (A d) (qCore c) ∗ bigSep Finset.univ fun s : Fin 16 => rowAt d f c s)
abbrev tilePart (d : Dev nD) (f : Buf (Elt F) (oLoc d)) (c : Fin 2) (s : Fin 16) : sProp 𝕄 :=
  iprop(reads d (A d) (qTile c s) ∗ rowAt d f c s)

def P : (K (F := F)).Pay (nD := nD) (Val := Elt F) (Name := ℕ) (U := UU) where
  st := fun q d c => match q with | 0 => corePart A d (f0 d) (Fin.cast nCore_zero c)
  dn := fun q d c => match q with | 0 => corePart A d (outSpec (A d)) (Fin.cast nCore_zero c)
  go := fun q d c i => match q with | 0 => tilePart A d (f0 d) (Fin.cast nCore_zero c) (Fin.cast nSub_zero i)
  td := fun q d c i => match q with | 0 => tilePart A d (outSpec (A d)) (Fin.cast nCore_zero c) (Fin.cast nSub_zero i)
  x := fun _ _ => iprop(emp)

instance P_storable : (P A f0).IsStorable where
  st q d c := match q with
    | 0 => (inferInstance : BI.Storable (upEmb : UEmb _ 𝕄) (corePart A d (f0 d) (Fin.cast nCore_zero c)))
  dn q d c := match q with
    | 0 => (inferInstance : BI.Storable (upEmb : UEmb _ 𝕄) (corePart A d (outSpec (A d)) (Fin.cast nCore_zero c)))
  go q d c i := match q with
    | 0 => (inferInstance : BI.Storable (upEmb : UEmb _ 𝕄) (tilePart A d (f0 d) (Fin.cast nCore_zero c) (Fin.cast nSub_zero i)))
  td q d c i := match q with
    | 0 => (inferInstance : BI.Storable (upEmb : UEmb _ 𝕄) (tilePart A d (outSpec (A d)) (Fin.cast nCore_zero c) (Fin.cast nSub_zero i)))

/-! ## A core's part is its tiles' -/

theorem core_tiles (d : Dev nD) (f : Buf (Elt F) (oLoc d)) (c : Fin 2) :
    (corePart A d f c : sProp 𝕄) = bigSep Finset.univ fun s : Fin 16 => tilePart A d f c s := by
  unfold corePart tilePart
  rw [bigSep_sep', reads_pieces d (A d) 4 (qCore c)]
  rfl

theorem vecSplit : (K (F := F)).VecSplit' (P A f0) 0 := by
  intro d c
  show corePart A d (f0 d) (Fin.cast nCore_zero c) ⊢ |={Set.univ}=> iprop(
      (bigSep Finset.univ fun i : Fin 16 => tilePart A d (f0 d) (Fin.cast nCore_zero c) i)
      ∗ ((bigSep Finset.univ fun i : Fin 16 => tilePart A d (outSpec (A d)) (Fin.cast nCore_zero c) i)
          -∗ corePart A d (outSpec (A d)) (Fin.cast nCore_zero c)))
  rw [core_tiles, core_tiles]
  iintro H; imodintro
  isplitl [H]; · iexact H
  iintro H; iexact H

/-- What @main gives the call and takes back: the six arrays and the output whole. -/
theorem whole_cores (d : Dev nD) (f : Buf (Elt F) (oLoc d)) :
    (iprop(reads d (A d) fullShare ∗ oLoc d ↦{fullShare} f) : sProp 𝕄) = bigSep Finset.univ fun c : Fin 2 => corePart A d f c := by
  unfold corePart
  rw [bigSep_sep', reads_pieces d (A d) 1 fullShare, out_rows]
  rfl

theorem st_eq (d : Dev nD) : (bigSep Finset.univ fun c : Fin ((K (F := F)).nCore 0) => (P A f0).st 0 d c)
    = (iprop(reads d (A d) fullShare ∗ oLoc d ↦{fullShare} f0 d) : sProp 𝕄) := by
  rw [whole_cores]; rfl
theorem dn_eq (d : Dev nD) : (bigSep Finset.univ fun c : Fin ((K (F := F)).nCore 0) => (P A f0).dn 0 d c)
    = (iprop(reads d (A d) fullShare ∗ oLoc d ↦{fullShare} outSpec (A d)) : sProp 𝕄) := by
  rw [whole_cores]; rfl

/-! ## The tile's obligation -/

def coordsOf (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1_body (coordsOf c s)
          pxV (Memref.isWhole_whole _) pyV (Memref.isWhole_whole _) txV (Memref.isWhole_whole _) tyV (Memref.isWhole_whole _)
          igV (Memref.isWhole_whole _) ipV (Memref.isWhole_whole _) oV (Memref.isWhole_whole _)
          ixV (Memref.isWhole_whole _) qxV (Memref.isWhole_whole _) qyV (Memref.isWhole_whole _) gxV (Memref.isWhole_whole _)
          gyV (Memref.isWhole_whole _) rwV (Memref.isWhole_whole _) cc1_scratch6 cc1_scoped0 cc1_scoped1 cc1_scoped2 cc1_scoped3
          cc1_scoped4 cc1_scoped5 cc1_scoped6 cc1_scoped7 cc1_scoped8 cc1_scoped9 cc1_scoped10 cc1_scoped11 cc1_scoped12) ⟨⟩ c s := rfl

omit [FloatOps F] in
theorem waits_weaken {thr : Thread nD τ} {B C E : sProp 𝕄} {O : CellTallies nD τ sig (HIx 1)} {W : Waits sig (HIx 1)} {q : Fin 1} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = some q⌝ ∗ owes thr O W') := by
  iintro ⟨HB, HC, HE, %W', %hW, HO⟩
  isplitl [HB]; · iexact HB
  isplitl [HC]; · iexact HC
  isplitl [HE]; · iexact HE
  iexists W'; isplitr
  · ipureintro; exact fun p hp => (hW p hp).imp_right Or.inl
  iexact HO

set_option maxRecDepth 16384 in
theorem tileObl (hA : ∀ d, (A d).InRange) : (K (F := F)).TileObl (D (F := F)) 𝒱 (P A f0) v₀ 0 := by
  intro d c i O W hO _ _
  simp only [show (P A f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsOf ⟨_, hci.1⟩ ⟨_, hci.2⟩) (A d) facts (hA d) (qTile (Fin.cast nCore_zero c) (Fin.cast nSub_zero i)) (f0 d) O W hO).trans
    (wp_mono frame _ _ fun _ => waits_weaken)

end Cert.Proof.Chamfer

end
-- ==== Proof.Tc.lean ====
/-
  The nearest-neighbour kernel of `KernelIdeal` on the TensorCore: its body run once at a symbolic grid point, with the
  index block it leaves.
-/
module

public import proofs.«01_k».proof.Proof.Base
public import Idealize.ShloMosaic.Lib.Pipeline.RegionArrays
public import Idealize.ShloMosaic.Lib.Pipeline.FrameBody
public import Idealize.ShloMosaic.Lib.Pipeline.ValueKit.Geometry
public import Idealize.ShloMosaic.Lib.WritesUnit

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (Dat Cfg Window BodyObligation cellOf)

local notation "𝕄" => MT nD τ sig (HIx 1) (Elt F) ℕ UU ℕ

variable [FloatOps F]

/-! ## The body -/

/-- The index block the body leaves, of the block of query points and of the key points. -/
def nnBlk (x : S256x2.Idx → Elt F .f32) (y : S1x2x8192.Idx → Elt F .f32) : S1x1x256.Idx → Elt F .i32 :=
  let v0 := View.ld x (Rect.unit (s := S256x2) ![0, 0] S256x1.size inb_S256x2_S256x1_0_0)
  let v2 := View.ld x (Rect.unit (s := S256x2) ![0, 1] S256x1.size inb_S256x2_S256x1_0_1)
  let v4 := View.ld y (Rect.unit (s := S1x2x8192) ![0, 0, 0] S1x1x8192.size inb_S1x2x8192_S1x1x8192_0_0_0)
  let v6 := View.ld y (Rect.unit (s := S1x2x8192) ![0, 1, 0] S1x1x8192.size inb_S1x2x8192_S1x1x8192_0_1_0)
  k0_pay1 (k0_pay11 (k0_pay2 v4) (k0_pay3 v6) (k0_pay5 v4 v6) (k0_pay7 v4 v6) (k0_pay8 v4 v6) (k0_pay9 v0 v2)
    (iota .tc S8x8192 32 [0] iota_S8x8192_d0_w32) k0_pay10 (Scalar.ofBits .f32 0xC0000000#32))

/-- The body run once: the two inputs read, the index block left. -/
theorem nn_run (d : Dev nD) (t : grid0.Coords) (M0 : Memref sig .tc .vmem S256x2 .f32) (h0 : M0.IsWhole)
    (M1 : Memref sig .tc .vmem S1x2x8192 .f32) (h1 : M1.IsWhole) (M2 : Memref sig .tc .vmem S1x1x256 .i32) (h2 : M2.IsWhole)
    (f0 : Buf (Elt F) (M0.view.loc (T d))) (f1 : Buf (Elt F) (M1.view.loc (T d))) (f2 : Buf (Elt F) (M2.view.loc (T d)))
    (Q : PUnit → sProp 𝕄) :
    iprop((M0.view.loc (T d) ↦{fullShare} f0) ∗ (M1.view.loc (T d) ↦{fullShare} f1) ∗ (M2.view.loc (T d) ↦{fullShare} f2) ∗
      (iprop((M0.view.loc (T d) ↦{fullShare} f0) ∗ (M1.view.loc (T d) ↦{fullShare} f1) ∗
        (∃ g, ⌜nnBlk (M0.view.read (Elt F) f0) (M1.view.read (Elt F) f1) = M2.view.read (Elt F) g⌝ ∗
          (M2.view.loc (T d) ↦{fullShare} g))) -∗ Q ⟨⟩))
      ⊢ wp frame (wpE (defs₀ (F := F)) 𝒱₀ (T d) none) Set.univ (cc0__nn_tc_body t M0 h0 M1 h1 M2 h2) Q := by
  rw [cc0__nn_tc_body_eq_skeleton]; unfold cc0__nn_tc_body_skel
  rw [k0_part1_eq_skeleton, k0_part2_eq_skeleton]; unfold k0_part1_skel k0_part2_skel
  iintro ⟨H0, H1, H2, Hk⟩
  sl_exec
  sl_step
  iapply Hk
  isplitl [H0]; · iexact H0
  isplitl [H1]; · iexact H1
  iexists _
  isplitr; swap; (· iexact H2)
  ipureintro
  funext y
  refine Eq.symm ((View.read_writes_cons_unit_of_mem M2.view f2 _ _ [] y y rfl fun a => ?_).trans ?_)
  · fin_cases a <;> exact (Nat.zero_add _).symm
  · rfl

/-! ## The data of the pipeline's loop -/

section Data

variable (d : Dev nD) (X2 : Buf (Elt F) ((SparseCore.T d : Thread nD τ).loc main_v2)) (X7 : Buf (Elt F) ((SparseCore.T d : Thread nD τ).loc main_v7)) (X8 : Buf (Elt F) ((SparseCore.T d : Thread nD τ).loc main_v8))

/-- The block of query points at point `t`. -/
abbrev qBlk (t : Fin cfg0.N) := ((cfg0.win 0).blk t).view.read (Elt F) X2
/-- The key points at point `t`. -/
abbrev kBlk (t : Fin cfg0.N) := ((cfg0.win 1).blk t).view.read (Elt F) X7

/-- The scoped buffers no window stages. -/
abbrev ΦR : sProp 𝕄 := Pipeline.scopedRest (Ix := HIx 1) (Name := ℕ) (U := UU) (Lvl := ℕ) (Val := Elt F) spec0 d

/-- What the loop starts from, what each point leaves, and that the core's recorded waits stay at the lowest level. -/
def dat : Dat τ (Elt F) (HIx 1) ℕ UU ℕ cfg0 d where
  A w := match w with
    | ⟨0, _⟩ => X2
    | ⟨1, _⟩ => X7
    | ⟨2, _⟩ => X8
  after w t := match w with
    | ⟨0, _⟩ => qBlk d X2 t
    | ⟨1, _⟩ => kBlk d X7 t
    | ⟨2, _⟩ => nnBlk (qBlk d X2 t) (kBlk d X7 t)
  Φ _ := ΦR d
  q _ := fullShare
  owed _ := (K (F := F)).Otc d 0
  recorded _ := {p | (K (F := F)).lev (T d, p.1) p.2 ≤ 0}

theorem before_q (t : Fin cfg0.N) (e : (cfg0.win 0).block.Idx → Elt F (cfg0.win 0).elt) : (dat d X2 X7 X8).before 0 t e = qBlk d X2 t :=
  ((dat d X2 X7 X8).before_in_eq_fetched 0 rfl (fun _ => rfl) (fun _ _ _ => rfl) (fun _ => rfl) t e).trans rfl
theorem before_k (t : Fin cfg0.N) (e : (cfg0.win 1).block.Idx → Elt F (cfg0.win 1).elt) : (dat d X2 X7 X8).before 1 t e = kBlk d X7 t :=
  ((dat d X2 X7 X8).before_in_eq_fetched 1 rfl (fun _ => rfl) (fun _ _ _ => rfl) (fun _ => rfl) t e).trans rfl

theorem owns_whole {d : Dev nD} {sp : Space} {S : Shape} {e : EltTy} (M : Memref sig .tc sp S e) (h : M.IsWhole) (X : S.Idx → Elt F e) :
    (owns (d.tc : Thread nD τ) M fullShare X : sProp 𝕄)
      = iprop(∃ f, ⌜M.view.read (Elt F) f = X⌝ ∗ (M.view.loc (d.tc : Thread nD τ) ↦{fullShare} f)) := by
  unfold owns; rw [h.set_eq_univ]

theorem body_at (t : Fin cfg0.N) (O : sProp 𝕄) :
    iprop(ΦR d ∗ O ∗ (∃ e, owns (d.tc : Thread nD τ) (st0_0 t) fullShare ((dat d X2 X7 X8).before 0 t e)) ∗
      (∃ e, owns (d.tc : Thread nD τ) (st0_1 t) fullShare ((dat d X2 X7 X8).before 1 t e)) ∗
      (∃ e, owns (d.tc : Thread nD τ) (st0_2 t) fullShare ((dat d X2 X7 X8).before 2 t e)))
      ⊢ wp frame (wpE (defs₀ (F := F)) 𝒱₀ (T d) none) Set.univ (bodyAt0 t) fun _ =>
        iprop(ΦR d ∗ O ∗ owns (d.tc : Thread nD τ) (st0_0 t) fullShare (qBlk d X2 t) ∗
          owns (d.tc : Thread nD τ) (st0_1 t) fullShare (kBlk d X7 t) ∗
          owns (d.tc : Thread nD τ) (st0_2 t) fullShare (nnBlk (qBlk d X2 t) (kBlk d X7 t))) := by
  have h0 : (st0_0 t).IsWhole := hstage0_0 ((cfg0.slots t 0).cast nbuf0_0)
  have h1 : (st0_1 t).IsWhole := hstage0_1 ((cfg0.slots t 1).cast nbuf0_1)
  have h2 : (st0_2 t).IsWhole := hstage0_2 ((cfg0.slots t 2).cast nbuf0_2)
  simp only [owns_whole _ h0, owns_whole _ h1, owns_whole _ h2, before_q, before_k]
  iintro ⟨HΦ, HO, ⟨%e0, %f0, %hf0, H0⟩, ⟨%e1, %f1, %hf1, H1⟩, ⟨%e2, %f2, -, H2⟩⟩
  iapply (nn_run (F := F) d (grid0.coords t) (st0_0 t) h0 (st0_1 t) h1 (st0_2 t) h2 f0 f1 f2 _)
  isplitl [H0]; · iexact H0
  isplitl [H1]; · iexact H1
  isplitl [H2]; · iexact H2
  iintro ⟨H0, H1, ⟨%g, %hg, H2⟩⟩
  isplitl [HΦ]; · iexact HΦ
  isplitl [HO]; · iexact HO
  isplitl [H0]; · iexists f0; isplitr; · ipureintro; exact hf0
                  iexact H0
  isplitl [H1]; · iexists f1; isplitr; · ipureintro; exact hf1
                  iexact H1
  iexists g; isplitr
  · ipureintro; rw [← hg, hf0, hf1]
  iexact H2

end Data

end Cert.Proof.Chamfer

end
-- ==== Proof.TcOb.lean ====
/-
  The nearest-neighbour kernel's loop over its grid: the body's obligation at every point, and the index array it leaves.
-/
module

public import proofs.«01_k».proof.Proof.Tc

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (Dat Cfg Window BodyObligation cellOf)

local notation "𝕄" => MT nD τ sig (HIx 1) (Elt F) ℕ UU ℕ

variable [FloatOps F]

section Data

variable (d : Dev nD) (X2 : Buf (Elt F) ((SparseCore.T d : Thread nD τ).loc main_v2)) (X7 : Buf (Elt F) ((SparseCore.T d : Thread nD τ).loc main_v7)) (X8 : Buf (Elt F) ((SparseCore.T d : Thread nD τ).loc main_v8))

theorem after_q (t : Fin cfg0.N) : (dat d X2 X7 X8).after 0 t = qBlk d X2 t := by dsimp only [dat]
theorem after_k (t : Fin cfg0.N) : (dat d X2 X7 X8).after 1 t = kBlk d X7 t := by dsimp only [dat]
theorem after_o (t : Fin cfg0.N) : (dat d X2 X7 X8).after 2 t = nnBlk (qBlk d X2 t) (kBlk d X7 t) := by dsimp only [dat]

theorem body_obligation : BodyObligation (dat d X2 X7 X8) (defs₀ (F := F)) 𝒱₀ none Set.univ := fun t => by
  rw [bigSep_W0, bigSep_W0]
  simp only []
  rw [show (dat d X2 X7 X8).Φ t.castSucc = ΦR d from rfl, show (dat d X2 X7 X8).Φ t.succ = ΦR d from rfl,
    show (dat d X2 X7 X8).owesAt none t.succ = (dat d X2 X7 X8).owesAt none t.castSucc from rfl]
  rw [after_q, after_k, after_o]
  exact body_at d X2 X7 X8 t ((dat d X2 X7 X8).owesAt none t.castSucc)

end Data

end Cert.Proof.Chamfer

end
-- ==== Proof.TcOut.lean ====
/-
  The nearest-neighbour kernel's loop over its grid: the body's obligation at every point, and the index array it leaves.
-/
module

public import proofs.«01_k».proof.Proof.TcOb

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (Dat Cfg Window BodyObligation cellOf)

local notation "𝕄" => MT nD τ sig (HIx 1) (Elt F) ℕ UU ℕ

variable [FloatOps F]

section Data

variable (d : Dev nD) (X2 : Buf (Elt F) ((SparseCore.T d : Thread nD τ).loc main_v2)) (X7 : Buf (Elt F) ((SparseCore.T d : Thread nD τ).loc main_v7)) (X8 : Buf (Elt F) ((SparseCore.T d : Thread nD τ).loc main_v8))

/-! ## The array the loop leaves -/

/-- The block of query points `i`, in coordinates. -/
def qRows (x : S16384x2.Idx → Elt F .f32) (i : Fin 64) : S256x2.Idx → Elt F .f32 := fun y =>
  x fun | 0 => ⟨256 * i.val + (y 0).val, by have := i.isLt; have := (y 0).isLt; simp only [S256x2, S16384x2, Matrix.cons_val_zero] at *; omega⟩
        | 1 => ⟨(y 1).val, (y 1).isLt⟩
/-- Set `k` of key points. -/
def kSet (x : S2x2x8192.Idx → Elt F .f32) (k : Fin 2) : S1x2x8192.Idx → Elt F .f32 := fun y =>
  x fun | 0 => ⟨k.val, k.isLt⟩ | 1 => ⟨(y 1).val, (y 1).isLt⟩ | 2 => ⟨(y 2).val, (y 2).isLt⟩
/-- The index array the loop leaves: block `i` from the query points' block `i` and the key points' set `i / 32`. -/
def nnOut (x2 : S16384x2.Idx → Elt F .f32) (x7 : S2x2x8192.Idx → Elt F .f32) : S64x1x256.Idx → Elt F .i32 := fun z =>
  nnBlk (qRows x2 ⟨(z 0).val, (z 0).isLt⟩) (kSet x7 ⟨(z 0).val / 32, by have h : (z 0).val < 64 := (z 0).isLt; omega⟩)
    fun | 0 => ⟨0, Nat.one_pos⟩ | 1 => ⟨0, Nat.one_pos⟩ | 2 => ⟨(z 2).val, (z 2).isLt⟩

theorem idx0 : ∀ t : Fin grid0.N, win0_0.index t 0 = t.val ∧ win0_0.index t 1 = 0 := by decide +kernel
theorem idx1 : ∀ t : Fin grid0.N, win0_1.index t 0 = t.val / 32 ∧ win0_1.index t 1 = 0 ∧ win0_1.index t 2 = 0 := by decide +kernel
theorem idx2 : ∀ t : Fin grid0.N, win0_2.index t 0 = t.val ∧ win0_2.index t 1 = 0 ∧ win0_2.index t 2 = 0 := by decide +kernel

theorem qBlk_eq (t : Fin cfg0.N) : qBlk d X2 t = qRows X2 ⟨t.val, t.isLt⟩ := by
  funext y
  show X2 _ = X2 _
  congr 1
  funext a
  apply Fin.ext
  fin_cases a
  · show ((win0_0.blk t).view.emb y 0 : ℕ) = 256 * t.val + (y 0).val
    blk_simp [(idx0 t).1]; omega
  · show ((win0_0.blk t).view.emb y 1 : ℕ) = (y 1).val
    blk_simp [(idx0 t).2]

theorem kBlk_eq (t : Fin cfg0.N) : kBlk d X7 t = kSet X7 ⟨t.val / 32, by have h : t.val < 64 := t.isLt; omega⟩ := by
  funext y
  show X7 _ = X7 _
  congr 1
  funext a
  apply Fin.ext
  have hy : (y 0).val = 0 := Nat.lt_one_iff.mp (y 0).isLt
  fin_cases a
  · show ((win0_1.blk t).view.emb y 0 : ℕ) = t.val / 32
    blk_simp [(idx1 t).1]
  · show ((win0_1.blk t).view.emb y 1 : ℕ) = (y 1).val
    blk_simp [(idx1 t).2.1]
  · show ((win0_1.blk t).view.emb y 2 : ℕ) = (y 2).val
    blk_simp [(idx1 t).2.2]

theorem covers_o (i : S64x1x256.Idx) : ∃ t : Fin cfg0.N, (cfg0.win 2).flush t = true ∧ i ∈ ((cfg0.win 2).blk t).view.set := by
  refine ⟨⟨(i 0).val, (i 0).isLt⟩, flush0_2 _, (win0_2.emb_mem_blk_iff ⟨(i 0).val, (i 0).isLt⟩ i).mpr fun a => ?_⟩
  fin_cases a
  · show win0_2.index ⟨(i 0).val, (i 0).isLt⟩ 0 * 1 ≤ (i 0).val ∧ (i 0).val < win0_2.index ⟨(i 0).val, (i 0).isLt⟩ 0 * 1 + 1
    rw [(idx2 _).1]; simp
  · show win0_2.index ⟨(i 0).val, (i 0).isLt⟩ 1 * 1 ≤ (i 1).val ∧ (i 1).val < win0_2.index ⟨(i 0).val, (i 0).isLt⟩ 1 * 1 + 1
    rw [(idx2 _).2.1]; exact ⟨by omega, (i 1).isLt⟩
  · show win0_2.index ⟨(i 0).val, (i 0).isLt⟩ 2 * 256 ≤ (i 2).val ∧ (i 2).val < win0_2.index ⟨(i 0).val, (i 0).isLt⟩ 2 * 256 + 256
    rw [(idx2 _).2.2]; exact ⟨by omega, by have h : (i 2).val < 256 := (i 2).isLt; omega⟩

theorem nnOut_at (x2 : S16384x2.Idx → Elt F .f32) (x7 : S2x2x8192.Idx → Elt F .f32) (t : Fin 64) (y : S1x1x256.Idx) (z : S64x1x256.Idx)
    (h0 : (z 0).val = t.val) (h2 : (z 2).val = (y 2).val) :
    nnOut x2 x7 z = nnBlk (qRows x2 t) (kSet x7 ⟨t.val / 32, by have h : t.val < 64 := t.isLt; omega⟩) y := by
  unfold nnOut
  have e : (fun | 0 => ⟨0, Nat.one_pos⟩ | 1 => ⟨0, Nat.one_pos⟩ | 2 => ⟨(z 2).val, (z 2).isLt⟩ : S1x1x256.Idx) = y := by
    funext a
    fin_cases a
    · exact Fin.ext (Nat.lt_one_iff.mp (y 0).isLt).symm
    · exact Fin.ext (Nat.lt_one_iff.mp (y 1).isLt).symm
    · exact Fin.ext h2
  rw [e]
  simp only [h0]

theorem after_pt (t : Fin cfg0.N) (y' : S1x1x256.Idx) (z : S64x1x256.Idx) (h0 : (z 0).val = t.val) (h2 : (z 2).val = (y' 2).val) :
    (dat d X2 X7 X8).after 2 t y' = nnOut X2 X7 z := by
  rw [after_o, qBlk_eq, kBlk_eq]
  exact (nnOut_at X2 X7 ⟨t.val, t.isLt⟩ y' z h0 h2).symm

theorem emb0 (t : Fin cfg0.N) (y : ((cfg0.win 2).xblock (cfg0.grid.coords t)).Idx) :
    ((((cfg0.win 2).blk t).view.emb y : S64x1x256.Idx) 0).val = t.val := by
  have hy : (y 0).val = 0 := Nat.lt_one_iff.mp (y 0).isLt
  show ((win0_2.blk t).view.emb y 0 : ℕ) = t.val
  blk_simp [(idx2 t).1]
theorem emb2 (t : Fin cfg0.N) (y : ((cfg0.win 2).xblock (cfg0.grid.coords t)).Idx) :
    ((((cfg0.win 2).blk t).view.emb y : S64x1x256.Idx) 2).val = (y 2).val := by
  show ((win0_2.blk t).view.emb y 2 : ℕ) = (y 2).val
  blk_simp [(idx2 t).2.2]

theorem arrAt_out : (dat d X2 X7 X8).arrAt 2 cfg0.N = nnOut X2 X7 :=
  (dat d X2 X7 X8).arrAt_eq_of_emb 2 _ (fun t _ y =>
    (cast_eq _ _).trans (after_pt d X2 X7 X8 t ((cfg0.win 2).xinj (cfg0.grid.coords t) y) _ (emb0 t y) (emb2 t y))) covers_o

end Data

end Cert.Proof.Chamfer

end
-- ==== Proof.Region.lean ====
/-
  The nearest-neighbour kernel's call in @main: entered from its three arrays and what the TensorCore owes the
  SparseCores' launch, left with the index array written and the recorded waits still at the lowest level.
-/
module

public import proofs.«01_k».proof.Proof.TcOut

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (Dat Cfg Window BodyObligation cellOf)

local notation "𝕄" => MT nD τ sig (HIx 1) (Elt F) ℕ UU ℕ

variable [FloatOps F]

abbrev adm : (p : Fin 1) → (pcfgs (F := F) p).Adm := fun p => (cfgs p).toPCfg_adm
abbrev pin1 : Fin 1 → Cfg sig Λ₀ := Pipeline.pin (pcfgs (F := F)) adm

variable (X2 : (d : Dev nD) → Buf (Elt F) ((SparseCore.T d : Thread nD τ).loc main_v2))
  (X7 : (d : Dev nD) → Buf (Elt F) ((SparseCore.T d : Thread nD τ).loc main_v7))
  (X8 : (d : Dev nD) → Buf (Elt F) ((SparseCore.T d : Thread nD τ).loc main_v8))

def pdats : (p : Fin 1) → (c : Dev nD) → Dat τ (Elt F) (HIx 1) ℕ UU ℕ (pin1 (F := F) p) c
  | ⟨0, _⟩ => fun c => dat c (X2 c) (X7 c) (X8 c)

/-- What the TensorCore owes before the SparseCores' call, its recorded waits at the lowest level. -/
abbrev owes0 (c : Dev nD) : sProp 𝕄 :=
  iprop(∃ W, ⌜(K (F := F)).WBelow (T c) W 0⌝ ∗ owes (T c) ((K (F := F)).Otc c 0) W)

/-- The three arrays, the index array at `g`. -/
abbrev arrs (c : Dev nD) (g : Buf (Elt F) ((SparseCore.T c : Thread nD τ).loc main_v8)) : sProp 𝕄 :=
  iprop((((SparseCore.T c : Thread nD τ).loc main_v2) ↦{fullShare} X2 c) ∗ (((SparseCore.T c : Thread nD τ).loc main_v7) ↦{fullShare} X7 c) ∗
    (((SparseCore.T c : Thread nD τ).loc main_v8) ↦{fullShare} g))

theorem arrays_at (c : Dev nD) (G : (w : Fin cfg0.W) → Buf (Elt F) ((cfg0.win w).arr.view.loc (c.tc : Thread nD τ)))
    (h0 : G 0 = X2 c) (h1 : G 1 = X7 c) :
    ((pdats X2 X7 X8 0 c).arrays G : sProp 𝕄) = arrs X2 X7 c (G 2) := by
  rw [Pipeline.arrays_eq (pin1 (F := F)) (pdats X2 X7 X8) 0 c launch0.arr_whole ((pdats X2 X7 X8 0 c).share_full fun _ => rfl) G]
  rw [show (bigSep Finset.univ fun w : Fin 3 => (((c.tc : Thread nD τ).loc (Pipeline.arrRef spec0 w)) ↦{fullShare} G w : sProp 𝕄)) = _ from bigSep_W0 _, h0, h1]

/-- The call. -/
def reg : Pipeline.RegionSeg (pcfgs (F := F)) adm (pdats X2 X7 X8) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c (X2 c) (X7 c) (X8 c)).loose
  hwaits c := Pipeline.cellsWaits_intro (pin1 (F := F)) (pdats X2 X7 X8) none 0 c fun w s t =>
    (K (F := F)).mayOwe_of_bound 0 (fun p hp => by rw [Finset.mem_singleton] at hp; subst hp; exact le_rfl)
      (fun g ι h => lt_of_lt_of_le (by omega) ((K (F := F)).lev_of_Otc_pos h))
  pre c := iprop(arrs X2 X7 c (X8 c) ∗ owes0 c)
  post c := iprop(arrs X2 X7 c (nnOut (X2 c) (X7 c)) ∗ owes0 c)
  X _ := BI.emp
  Y _ := BI.emp
  Z _ := BI.emp
  hentry c := by
    rw [Pipeline.ownSems0_none, Pipeline.prefHeld_of_none _ rfl, arrays_at X2 X7 X8 c _ rfl rfl]
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W; isplitr
      · ipureintro; exact fun p hp => Or.inl (hW p hp)
      iexact HO
    isplitr <;> iempintro
  hin c := by
    rw [show (pdats X2 X7 X8 0 c).Φ 0 = ΦR c from rfl]
    iintro ⟨-, -, Hr⟩; iexact Hr
  hout c := by
    rw [Pipeline.ownSems0_none, show (pdats X2 X7 X8 0 c).Φ (Fin.last _) = ΦR c from rfl]
    iintro Hr
    isplitr; · iempintro
    isplitr; · iempintro
    iexact Hr
  hexit c := by
    rw [arrays_at X2 X7 X8 c _ ((pdats X2 X7 X8 0 c).arrAt_in 0 rfl _) ((pdats X2 X7 X8 0 c).arrAt_in 1 rfl _),
      show (pdats X2 X7 X8 0 c).arrAt 2 (pin1 (F := F) 0).N = nnOut (X2 c) (X7 c) from arrAt_out c (X2 c) (X7 c) (X8 c)]
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, h⟩
      · exact h
      · rw [h]; exact le_rfl
    iexact HO

end Cert.Proof.Chamfer

end
-- ==== Proof.Host.lean ====
/-
  @main around its two kernel calls: the host operations before, between and after them, and what every array holds after
  each stretch. The run itself, from the launch to the claim's shape, under the one fact it needs of the arrays: every
  index handed to the SparseCores names a row.
-/
module

public import proofs.«01_k».proof.Proof.Cores
public import proofs.«01_k».proof.Proof.Region
public import Idealize.ShloMosaic.Lib.Pipeline.Frame

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (ucRefs sub_ucRefs unscopedBufs_held cellsGhost toksInit)
open Idealize.ShloMosaic.StableHlo (seq seqK after held)

local notation "𝕄" => MT nD τ sig (HIx 1) (Elt F) ℕ UU ℕ

variable [FloatOps F]

/-! ## The host operations -/

def ops1 : List (HloOp τ sig (Elt F)) := [
  StableHlo.unary main_arg0 main_v0 ((extractStridedSlice S8192x2 ![0, 0] · slices_S8192x4_S8192x2_0_0) : (⟨S8192x4, .f32⟩ : BufTy).Contents (Elt F) → (⟨S8192x2, .f32⟩ : BufTy).Contents (Elt F)),
  StableHlo.unary main_arg1 main_v1 ((extractStridedSlice S8192x2 ![0, 0] · slices_S8192x4_S8192x2_0_0) : (⟨S8192x4, .f32⟩ : BufTy).Contents (Elt F) → (⟨S8192x2, .f32⟩ : BufTy).Contents (Elt F)),
  StableHlo.binary main_v0 main_v1 main_v2 ((fun a b => concatenate S16384x2 0 [⟨S8192x2, a⟩, ⟨S8192x2, b⟩] concatenates_S8192x2_S8192x2_S16384x2_d0) : (⟨S8192x2, .f32⟩ : BufTy).Contents (Elt F) → (⟨S8192x2, .f32⟩ : BufTy).Contents (Elt F) → (⟨S16384x2, .f32⟩ : BufTy).Contents (Elt F)),
  StableHlo.unary main_v1 main_v3 ((transpose S2x8192 [1, 0] · transposes_S8192x2_S2x8192_1_0) : (⟨S8192x2, .f32⟩ : BufTy).Contents (Elt F) → (⟨S2x8192, .f32⟩ : BufTy).Contents (Elt F)),
  StableHlo.unary main_v0 main_v4 ((transpose S2x8192 [1, 0] · transposes_S8192x2_S2x8192_1_0) : (⟨S8192x2, .f32⟩ : BufTy).Contents (Elt F) → (⟨S2x8192, .f32⟩ : BufTy).Contents (Elt F)),
  StableHlo.unary main_v3 main_v5 (broadcastInDim S1x2x8192 ![1, 2] bcast_S2x8192_S1x2x8192_1_2 : (⟨S2x8192, .f32⟩ : BufTy).Contents (Elt F) → (⟨S1x2x8192, .f32⟩ : BufTy).Contents (Elt F)),
  StableHlo.unary main_v4 main_v6 (broadcastInDim S1x2x8192 ![1, 2] bcast_S2x8192_S1x2x8192_1_2 : (⟨S2x8192, .f32⟩ : BufTy).Contents (Elt F) → (⟨S1x2x8192, .f32⟩ : BufTy).Contents (Elt F)),
  StableHlo.binary main_v5 main_v6 main_v7 ((fun a b => concatenate S2x2x8192 0 [⟨S1x2x8192, a⟩, ⟨S1x2x8192, b⟩] concatenates_S1x2x8192_S1x2x8192_S2x2x8192_d0) : (⟨S1x2x8192, .f32⟩ : BufTy).Contents (Elt F) → (⟨S1x2x8192, .f32⟩ : BufTy).Contents (Elt F) → (⟨S2x2x8192, .f32⟩ : BufTy).Contents (Elt F))]
def ops2 : List (HloOp τ sig (Elt F)) := [
  StableHlo.reshape main_v8 main_v9 (rfl : (.i32 : EltTy) = .i32) shapeCasts_S64x1x256_S2x8192,
  StableHlo.unary main_v0 main_v10 ((extractStridedSlice S8192x1 ![0, 0] · slices_S8192x2_S8192x1_0_0) : (⟨S8192x2, .f32⟩ : BufTy).Contents (Elt F) → (⟨S8192x1, .f32⟩ : BufTy).Contents (Elt F)),
  StableHlo.reshape main_v10 main_v11 (rfl : (.f32 : EltTy) = .f32) shapeCasts_S8192x1_S8192,
  StableHlo.unary main_v0 main_v12 ((extractStridedSlice S8192x1 ![0, 1] · slices_S8192x2_S8192x1_0_1) : (⟨S8192x2, .f32⟩ : BufTy).Contents (Elt F) → (⟨S8192x1, .f32⟩ : BufTy).Contents (Elt F)),
  StableHlo.reshape main_v12 main_v13 (rfl : (.f32 : EltTy) = .f32) shapeCasts_S8192x1_S8192,
  StableHlo.unary main_v1 main_v14 ((extractStridedSlice S8192x1 ![0, 0] · slices_S8192x2_S8192x1_0_0) : (⟨S8192x2, .f32⟩ : BufTy).Contents (Elt F) → (⟨S8192x1, .f32⟩ : BufTy).Contents (Elt F)),
  StableHlo.reshape main_v14 main_v15 (rfl : (.f32 : EltTy) = .f32) shapeCasts_S8192x1_S8192,
  StableHlo.unary main_v1 main_v16 ((extractStridedSlice S8192x1 ![0, 1] · slices_S8192x2_S8192x1_0_1) : (⟨S8192x2, .f32⟩ : BufTy).Contents (Elt F) → (⟨S8192x1, .f32⟩ : BufTy).Contents (Elt F)),
  StableHlo.reshape main_v16 main_v17 (rfl : (.f32 : EltTy) = .f32) shapeCasts_S8192x1_S8192,
  StableHlo.unary main_v9 main_v18 ((extractStridedSlice S1x8192 ![0, 0] · slices_S2x8192_S1x8192_0_0) : (⟨S2x8192, .i32⟩ : BufTy).Contents (Elt F) → (⟨S1x8192, .i32⟩ : BufTy).Contents (Elt F)),
  StableHlo.reshape main_v18 main_v19 (rfl : (.i32 : EltTy) = .i32) shapeCasts_S1x8192_S8192,
  StableHlo.unary main_v9 main_v20 ((extractStridedSlice S1x8192 ![1, 0] · slices_S2x8192_S1x8192_1_0) : (⟨S2x8192, .i32⟩ : BufTy).Contents (Elt F) → (⟨S1x8192, .i32⟩ : BufTy).Contents (Elt F)),
  StableHlo.reshape main_v20 main_v21 (rfl : (.i32 : EltTy) = .i32) shapeCasts_S1x8192_S8192]
def ops3 : List (HloOp τ sig (Elt F)) := [
  StableHlo.reshape main_v22 main_v23 (rfl : (.f32 : EltTy) = .f32) shapeCasts_S32x64_S32x4x16,
  StableHlo.nullary main_cst (constant S_ .f32 0x00000000#32),
  StableHlo.binary main_v23 main_cst main_v24 ((fun x v => Host.reduceAdd x v reducesTo_S32x4x16_S4_d0_2 h_S_) : (⟨S32x4x16, .f32⟩ : BufTy).Contents (Elt F) → (⟨S_, .f32⟩ : BufTy).Contents (Elt F) → (⟨S4, .f32⟩ : BufTy).Contents (Elt F)),
  StableHlo.unary main_v24 main_v25 ((extractStridedSlice S1 ![0] · slices_S4_S1_0) : (⟨S4, .f32⟩ : BufTy).Contents (Elt F) → (⟨S1, .f32⟩ : BufTy).Contents (Elt F)),
  StableHlo.reshape main_v25 main_v26 (rfl : (.f32 : EltTy) = .f32) shapeCasts_S1_S_,
  StableHlo.unary main_arg2 main_v27 ((extractStridedSlice S1 ![0] · slices_S2_S1_0) : (⟨S2, .f32⟩ : BufTy).Contents (Elt F) → (⟨S1, .f32⟩ : BufTy).Contents (Elt F)),
  StableHlo.reshape main_v27 main_v28 (rfl : (.f32 : EltTy) = .f32) shapeCasts_S1_S_,
  StableHlo.binary main_v26 main_v28 main_v29 (mulf : (⟨S_, .f32⟩ : BufTy).Contents (Elt F) → (⟨S_, .f32⟩ : BufTy).Contents (Elt F) → (⟨S_, .f32⟩ : BufTy).Contents (Elt F)),
  StableHlo.unary main_v24 main_v30 ((extractStridedSlice S1 ![1] · slices_S4_S1_1) : (⟨S4, .f32⟩ : BufTy).Contents (Elt F) → (⟨S1, .f32⟩ : BufTy).Contents (Elt F)),
  StableHlo.reshape main_v30 main_v31 (rfl : (.f32 : EltTy) = .f32) shapeCasts_S1_S_,
  StableHlo.unary main_arg2 main_v32 ((extractStridedSlice S1 ![1] · slices_S2_S1_1) : (⟨S2, .f32⟩ : BufTy).Contents (Elt F) → (⟨S1, .f32⟩ : BufTy).Contents (Elt F)),
  StableHlo.reshape main_v32 main_v33 (rfl : (.f32 : EltTy) = .f32) shapeCasts_S1_S_,
  StableHlo.binary main_v31 main_v33 main_v34 (mulf : (⟨S_, .f32⟩ : BufTy).Contents (Elt F) → (⟨S_, .f32⟩ : BufTy).Contents (Elt F) → (⟨S_, .f32⟩ : BufTy).Contents (Elt F)),
  StableHlo.binary main_v29 main_v34 main_v35 (addf : (⟨S_, .f32⟩ : BufTy).Contents (Elt F) → (⟨S_, .f32⟩ : BufTy).Contents (Elt F) → (⟨S_, .f32⟩ : BufTy).Contents (Elt F)),
  StableHlo.unary main_v24 main_v36 ((extractStridedSlice S1 ![2] · slices_S4_S1_2) : (⟨S4, .f32⟩ : BufTy).Contents (Elt F) → (⟨S1, .f32⟩ : BufTy).Contents (Elt F)),
  StableHlo.reshape main_v36 main_v37 (rfl : (.f32 : EltTy) = .f32) shapeCasts_S1_S_,
  StableHlo.binary main_v35 main_v37 main_v38 (addf : (⟨S_, .f32⟩ : BufTy).Contents (Elt F) → (⟨S_, .f32⟩ : BufTy).Contents (Elt F) → (⟨S_, .f32⟩ : BufTy).Contents (Elt F)),
  StableHlo.unary main_v24 main_v39 ((extractStridedSlice S1 ![3] · slices_S4_S1_3) : (⟨S4, .f32⟩ : BufTy).Contents (Elt F) → (⟨S1, .f32⟩ : BufTy).Contents (Elt F)),
  StableHlo.reshape main_v39 main_v40 (rfl : (.f32 : EltTy) = .f32) shapeCasts_S1_S_,
  StableHlo.binary main_v38 main_v40 main_v41 (addf : (⟨S_, .f32⟩ : BufTy).Contents (Elt F) → (⟨S_, .f32⟩ : BufTy).Contents (Elt F) → (⟨S_, .f32⟩ : BufTy).Contents (Elt F))]

/-- The nearest-neighbour kernel's call, as the launch's program spells it. -/
abbrev callNN : Prog (TpuEff nD τ sig (Elt F) (SparseCore.Sig (ΛP (F := F)) 1) .tc) PUnit :=
  SparseCore.liftProg (.op (.customCall (Pipeline.entry 0) ()) .ret)

theorem main_eq (d : Dev nD) : main (F := F) d = seq ops1 >>= fun _ => callNN >>= fun _ => seq ops2 >>= fun _ =>
    (K (F := F)).run d 0 >>= fun _ => seq ops3 >>= fun _ => pure ⟨⟩ := by
  rw [StableHlo.seq_bind_seqK ops3, StableHlo.seq_bind_seqK ops2, StableHlo.seq_bind_seqK ops1]
  rfl

theorem fresh1 : ∀ op ∈ (ops1 (F := F)), op.fresh = ∅ := by
  intro _ h; unfold ops1 at h; (repeat (cases h with | head => rfl | tail _ h => ?_)); exact nomatch h
theorem fresh2 : ∀ op ∈ (ops2 (F := F)), op.fresh = ∅ := by
  intro _ h; unfold ops2 at h; (repeat (cases h with | head => rfl | tail _ h => ?_)); exact nomatch h
theorem fresh3 : ∀ op ∈ (ops3 (F := F)), op.fresh = ∅ := by
  intro _ h; unfold ops3 at h; (repeat (cases h with | head => rfl | tail _ h => ?_)); exact nomatch h

theorem sub1 : ∀ op ∈ (ops1 (F := F)), op.bufs ⊆ ucRefs τ sig := by
  intro op h; refine sub_ucRefs op ?_; revert op; unfold ops1
  simp only [List.forall_mem_cons, List.forall_mem_nil, StableHlo.nullary_bufs, StableHlo.unary_bufs, StableHlo.binary_bufs, StableHlo.reshape_bufs,
    Finset.insert_subset_iff, Finset.singleton_subset_iff, and_true, List.not_mem_nil, false_imp_iff, implies_true]
  repeat' first | exact StableHlo.devRef_mem_tcRefs _ | constructor
theorem sub2 : ∀ op ∈ (ops2 (F := F)), op.bufs ⊆ ucRefs τ sig := by
  intro op h; refine sub_ucRefs op ?_; revert op; unfold ops2
  simp only [List.forall_mem_cons, List.forall_mem_nil, StableHlo.nullary_bufs, StableHlo.unary_bufs, StableHlo.binary_bufs, StableHlo.reshape_bufs,
    Finset.insert_subset_iff, Finset.singleton_subset_iff, and_true, List.not_mem_nil, false_imp_iff, implies_true]
  repeat' first | exact StableHlo.devRef_mem_tcRefs _ | constructor
theorem sub3 : ∀ op ∈ (ops3 (F := F)), op.bufs ⊆ ucRefs τ sig := by
  intro op h; refine sub_ucRefs op ?_; revert op; unfold ops3
  simp only [List.forall_mem_cons, List.forall_mem_nil, StableHlo.nullary_bufs, StableHlo.unary_bufs, StableHlo.binary_bufs, StableHlo.reshape_bufs,
    Finset.insert_subset_iff, Finset.singleton_subset_iff, and_true, List.not_mem_nil, false_imp_iff, implies_true]
  repeat' first | exact StableHlo.devRef_mem_tcRefs _ | constructor

/-! ## The arrays after each stretch -/

section Vals

variable (W : Valuation τ sig (Elt F))

/-- After the first stretch; with the index array written; after the second; with the partial sums written; at the end. -/
def val1 : Valuation τ sig (Elt F) := after ops1 W
def val2 : Valuation τ sig (Elt F) :=
  Function.update (val1 W) (Proc.devRef .tc main_v8) (nnOut (val1 W (Proc.devRef .tc main_v2)) (val1 W (Proc.devRef .tc main_v7)))
def val3 : Valuation τ sig (Elt F) := after ops2 (val2 W)
/-- The six arrays the SparseCores read. -/
def insOf (W : Valuation τ sig (Elt F)) : Ins F where
  px := W (Proc.devRef .tc main_v11)
  py := W (Proc.devRef .tc main_v13)
  tx := W (Proc.devRef .tc main_v15)
  ty := W (Proc.devRef .tc main_v17)
  ig := W (Proc.devRef .tc main_v19)
  ip := W (Proc.devRef .tc main_v21)
def val4 : Valuation τ sig (Elt F) := Function.update (val3 W) (Proc.devRef .tc main_v22) (outSpec (insOf (val3 W)))
def val5 : Valuation τ sig (Elt F) := after ops3 (val4 W)

/-- The arguments are as they were. -/
theorem val5_arg (r : Ref sig .tc) (hr : r = main_arg0 ∨ r = main_arg1 ∨ r = main_arg2) :
    val5 W (Proc.devRef .tc r) = W (Proc.devRef .tc r) := by
  have h8 : Proc.devRef (τ := τ) .tc r ≠ Proc.devRef .tc main_v8 :=
    StableHlo.devRef_ne_of_ne (by rcases hr with rfl | rfl | rfl <;> decide)
  have h22 : Proc.devRef (τ := τ) .tc r ≠ Proc.devRef .tc main_v22 :=
    StableHlo.devRef_ne_of_ne (by rcases hr with rfl | rfl | rfl <;> decide)
  have e1 : val1 W (Proc.devRef .tc r) = W (Proc.devRef .tc r) :=
    StableHlo.after_of_writes_sub (W := [main_v0, main_v1, main_v2, main_v3, main_v4, main_v5, main_v6, main_v7]) ops1 W
      (StableHlo.forall_writes_sub_of_map rfl) (by rcases hr with rfl | rfl | rfl <;> decide)
  have e3 : val3 W (Proc.devRef .tc r) = val2 W (Proc.devRef .tc r) :=
    StableHlo.after_of_writes_sub (W := [main_v9, main_v10, main_v11, main_v12, main_v13, main_v14, main_v15, main_v16, main_v17, main_v18,
      main_v19, main_v20, main_v21]) ops2 (val2 W)
      (StableHlo.forall_writes_sub_of_map rfl) (by rcases hr with rfl | rfl | rfl <;> decide)
  have e5 : val5 W (Proc.devRef .tc r) = val4 W (Proc.devRef .tc r) :=
    StableHlo.after_of_writes_sub (W := [main_v23, main_cst, main_v24, main_v25, main_v26, main_v27, main_v28, main_v29, main_v30, main_v31,
      main_v32, main_v33, main_v34, main_v35, main_v36, main_v37, main_v38, main_v39, main_v40, main_v41]) ops3 (val4 W)
      (StableHlo.forall_writes_sub_of_map rfl) (by rcases hr with rfl | rfl | rfl <;> decide)
  rw [e5, val4, Function.update_of_ne h22, e3, val2, Function.update_of_ne h8, e1]

end Vals

/-! ## What is held, taken apart -/

def nnRefs : Finset (DevRef τ sig) := {Proc.devRef .tc main_v2, Proc.devRef .tc main_v7, Proc.devRef .tc main_v8}
def scRefs : Finset (DevRef τ sig) := {Proc.devRef .tc main_v11, Proc.devRef .tc main_v13, Proc.devRef .tc main_v15, Proc.devRef .tc main_v17,
  Proc.devRef .tc main_v19, Proc.devRef .tc main_v21, Proc.devRef .tc main_v22}
def finRefs : Finset (DevRef τ sig) := {Proc.devRef .tc main_arg0, Proc.devRef .tc main_arg1, Proc.devRef .tc main_arg2, Proc.devRef .tc main_v41}

omit [FloatOps F] in
theorem nnRefs_sub : nnRefs ⊆ ucRefs τ sig := by unfold nnRefs ucRefs; decide
omit [FloatOps F] in
theorem scRefs_sub : scRefs ⊆ ucRefs τ sig := by unfold scRefs ucRefs; decide
omit [FloatOps F] in
theorem finRefs_sub : finRefs ⊆ ucRefs τ sig := by unfold finRefs ucRefs; decide

theorem held_nn (d : Dev nD) (W : Valuation τ sig (Elt F)) (g : Buf (Elt F) ((SparseCore.T d : Thread nD τ).loc main_v8)) (hg : W (Proc.devRef .tc main_v8) = g) :
    (held (SparseCore.T d : Thread nD τ) nnRefs W : sProp 𝕄)
      = arrs (fun _ => W (Proc.devRef .tc main_v2)) (fun _ => W (Proc.devRef .tc main_v7)) d g := by
  subst hg
  unfold held
  rw [bigSep_eq_bigSepL_of_eq [Proc.devRef .tc main_v2, Proc.devRef .tc main_v7, Proc.devRef .tc main_v8] (by decide) (by decide)]
  rfl

theorem held_sc (d : Dev nD) (W : Valuation τ sig (Elt F)) (A : Ins F) (hA : insOf W = A) (g : Buf (Elt F) (oLoc d)) (hg : W (Proc.devRef .tc main_v22) = g) :
    (held (SparseCore.T d : Thread nD τ) scRefs W : sProp 𝕄) = iprop(reads d A fullShare ∗ oLoc d ↦{fullShare} g) := by
  subst hA hg
  unfold held
  rw [bigSep_eq_bigSepL_of_eq [Proc.devRef .tc main_v22, Proc.devRef .tc main_v11, Proc.devRef .tc main_v13, Proc.devRef .tc main_v15,
    Proc.devRef .tc main_v17, Proc.devRef .tc main_v19, Proc.devRef .tc main_v21] (by decide) (by decide)]
  refine BI.Entails.antisymm ?_ ?_
  · show iprop((oLoc d ↦{fullShare} W (Proc.devRef .tc main_v22)) ∗ reads d (insOf W) fullShare) ⊢ _
    iintro ⟨Ho, Hr⟩
    isplitl [Hr]; · iexact Hr
    iexact Ho
  · show _ ⊢ iprop((oLoc d ↦{fullShare} W (Proc.devRef .tc main_v22)) ∗ reads d (insOf W) fullShare)
    iintro ⟨Hr, Ho⟩
    isplitl [Ho]; · iexact Ho
    iexact Hr

end Cert.Proof.Chamfer

end
-- ==== Proof.Run.lean ====
/-
  The kernel's run: the launch's ghost state, @main from its arrays at launch to its arrays at the end, and the run of the
  whole program.
-/
module

public import proofs.«01_k».proof.Proof.Host

@[expose] public section

noncomputable section

namespace Cert.Proof.Chamfer

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.Pipeline (ucRefs sub_ucRefs unscopedBufs_held cellsGhost toksInit)
open Idealize.ShloMosaic.StableHlo (seq seqK after held)

local notation "𝕄" => MT nD τ sig (HIx 1) (Elt F) ℕ UU ℕ

variable [FloatOps F]

variable (m : (ℓ : Loc nD τ sig) → Buf (Elt F) ℓ) (ρ : Dev nD → PrngReg)

/-- The arrays at launch. -/
abbrev val0 (d : Dev nD) : Valuation τ sig (Elt F) := fun b => m (d, b)
/-- What the SparseCores read, and the partial sums' array as it is when they start. -/
abbrev insAt (d : Dev nD) : Ins F := insOf (val3 (val0 m d))
abbrev outAt (d : Dev nD) : Buf (Elt F) (oLoc d) := val3 (val0 m d) (Proc.devRef .tc main_v22)
abbrev Pm : (K (F := F)).Pay (nD := nD) (Val := Elt F) (Name := ℕ) (U := UU) := P (insAt m) (outAt m)

/-! ## The launch's ghost state -/

def u₀ : UU := (initOf (K (F := F)).hsCells (K (F := F)).hsToks,
  (initOf (Pipeline.cells (nD := nD) (τ := τ) (pin1 (F := F)) cellOf_inj) (Pipeline.launchToks (nD := nD) (τ := τ) (pin1 (F := F)) cellOf_inj), 1))

/-- The pipeline's cells and tokens of one device. -/
abbrev Gd (d : Dev nD) : sProp 𝕄 := iprop(cellsGhost (pin1 (F := F)) EP 0 d ∗ toksInit (pin1 (F := F)) EP 0 d)

omit [FloatOps F] in
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (show (BI.own (((Emb.inl : Emb UP (UP × Counters)).trans embR)
      (initOf (Pipeline.cells (nD := nD) (τ := τ) (pin1 (F := F)) cellOf_inj) (Pipeline.launchToks (nD := nD) (τ := τ) (pin1 (F := F)) cellOf_inj))) : sProp 𝕄)
      = BI.own (EP (initOf (Pipeline.cells (nD := nD) (τ := τ) (pin1 (F := F)) cellOf_inj) (Pipeline.launchToks (nD := nD) (τ := τ) (pin1 (F := F)) cellOf_inj)))
      from rfl)) $$ HP
  ihave HP := (Pipeline.fund_ghost (pin1 (F := F)) EP cellOf_inj) $$ HP
  imod HP with ⟨Hc, Ht⟩
  imodintro
  isplitl [HH]; · iexact HH
  isplitl [Hc Ht]
  · unfold Gd
    rw [bigSep_sep']
    isplitl [Hc]
    · iapply (Entails.of_eq (show (bigSep Finset.univ fun d : Dev nD => bigSep Finset.univ fun p => cellsGhost (pin1 (F := F)) EP p d : sProp 𝕄)
        = bigSep Finset.univ fun d : Dev nD => cellsGhost (pin1 (F := F)) EP 0 d from bigSep_congr fun d _ => bigSep_univ_of_subsingleton (0 : Fin 1)))
      iexact Hc
    · iapply (Entails.of_eq (show (bigSep Finset.univ fun d : Dev nD => bigSep Finset.univ fun p => toksInit (pin1 (F := F)) EP p d : sProp 𝕄)
        = bigSep Finset.univ fun d : Dev nD => toksInit (pin1 (F := F)) EP 0 d from bigSep_congr fun d _ => bigSep_univ_of_subsingleton (0 : Fin 1)))
      iexact Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), all_emp]
  iempintro

/-! ## @main -/

/-- What the run ends with: the arguments and the result. -/
abbrev FIN (d : Dev nD) : sProp 𝕄 := held (SparseCore.T d : Thread nD τ) finRefs (val5 (val0 m d))

/-- The TensorCore's state before the SparseCores' call, what it owes taken out. -/
theorem tcSt_open (d : Dev nD) : ∃ R : sProp 𝕄, (K (F := F)).tcSt EH d 0 = iprop(owes0 d ∗ R) :=
  ⟨_, by unfold SparseCore.Cfg.tcSt; rfl⟩

theorem split_nn (d : Dev nD) (W : Valuation τ sig (Elt F)) (X2 : Buf (Elt F) ((SparseCore.T d : Thread nD τ).loc main_v2))
    (X7 : Buf (Elt F) ((SparseCore.T d : Thread nD τ).loc main_v7)) (g : Buf (Elt F) ((SparseCore.T d : Thread nD τ).loc main_v8))
    (h2 : W (Proc.devRef .tc main_v2) = X2) (h7 : W (Proc.devRef .tc main_v7) = X7) (hg : W (Proc.devRef .tc main_v8) = g) :
    (held (SparseCore.T d : Thread nD τ) (ucRefs τ sig) W : sProp 𝕄)
      = iprop(arrs (fun _ => X2) (fun _ => X7) d g ∗ held (SparseCore.T d : Thread nD τ) (ucRefs τ sig \ nnRefs) W) := by
  subst h2 h7
  rw [StableHlo.held_sub_split (SparseCore.T d : Thread nD τ) nnRefs_sub, held_nn d W _ hg]

theorem split_sc (d : Dev nD) (W : Valuation τ sig (Elt F)) (A : Ins F) (g : Buf (Elt F) (oLoc d))
    (hA : insOf W = A) (hg : W (Proc.devRef .tc main_v22) = g) :
    (held (SparseCore.T d : Thread nD τ) (ucRefs τ sig) W : sProp 𝕄)
      = iprop((reads d A fullShare ∗ oLoc d ↦{fullShare} g) ∗ held (SparseCore.T d : Thread nD τ) (ucRefs τ sig \ scRefs) W) := by
  rw [StableHlo.held_sub_split (SparseCore.T d : Thread nD τ) scRefs_sub, held_sc d W A hA g hg]

theorem rest_nn (d : Dev nD) (W : Valuation τ sig (Elt F)) :
    (held (SparseCore.T d : Thread nD τ) (ucRefs τ sig \ nnRefs) (val2 W) : sProp 𝕄)
      = held (SparseCore.T d : Thread nD τ) (ucRefs τ sig \ nnRefs) (val1 W) :=
  StableHlo.held_congr _ fun b hb => Function.update_of_ne (fun e => (Finset.mem_sdiff.mp hb).2 (by subst e; unfold nnRefs; decide)) _ _
theorem rest_sc (d : Dev nD) (W : Valuation τ sig (Elt F)) :
    (held (SparseCore.T d : Thread nD τ) (ucRefs τ sig \ scRefs) (val4 W) : sProp 𝕄)
      = held (SparseCore.T d : Thread nD τ) (ucRefs τ sig \ scRefs) (val3 W) :=
  StableHlo.held_congr _ fun b hb => Function.update_of_ne (fun e => (Finset.mem_sdiff.mp hb).2 (by subst e; unfold scRefs; decide)) _ _

theorem insOf_val4 (W : Valuation τ sig (Elt F)) : insOf (val4 W) = insOf (val3 W) := by
  unfold insOf val4
  congr 1 <;> exact Function.update_of_ne (StableHlo.devRef_ne_of_ne (by decide)) _ _

/-- The nearest-neighbour call, from every array to every array. -/
theorem step_nn [∀ e, Nonempty (Elt F e)] (κ : GSem nD τ sig → ℕ) (d : Dev nD) (W : Valuation τ sig (Elt F)) (Φ : PUnit → sProp 𝕄) :
    iprop((K (F := F)).ctx EH (Pm m) κ ∗ boundary (SparseCore.T d : Thread nD τ) ∗ (K (F := F)).tcSt EH d 0
        ∗ held (SparseCore.T d : Thread nD τ) (ucRefs τ sig) (val1 W) ∗ Gd d
        ∗ ((boundary (SparseCore.T d : Thread nD τ) ∗ (K (F := F)).tcSt EH d 0 ∗ held (SparseCore.T d : Thread nD τ) (ucRefs τ sig) (val2 W)) -∗ Φ ⟨⟩))
      ⊢ wp frame (wpE ((K (F := F)).defs (D (F := F))) 𝒱 (SparseCore.T d) none) Set.univ callNN Φ := by
  obtain ⟨R, hR⟩ := tcSt_open (F := F) d
  rw [hR, split_nn d (val1 W) _ _ _ rfl rfl rfl,
    split_nn d (val2 W) (val1 W (Proc.devRef .tc main_v2)) (val1 W (Proc.devRef .tc main_v7)) _
      (Function.update_of_ne (StableHlo.devRef_ne_of_ne (by decide)) _ _) (Function.update_of_ne (StableHlo.devRef_ne_of_ne (by decide)) _ _)
      (Function.update_self _ _ _), rest_nn]
  refine BI.Entails.trans ?_ ((K (F := F)).wp_liftProg (D (F := F)) 𝒱 (SparseCore.T d) Set.univ none _ _)
  refine BI.Entails.trans ?_ (Pipeline.RegionSeg.wp (pcfgs (F := F)) adm (pdats (fun _ => val1 W (Proc.devRef .tc main_v2)) (fun _ => val1 W (Proc.devRef .tc main_v7))
    (fun _ => val1 W (Proc.devRef .tc main_v8))) none cellOf_inj EP defs₀ 𝒱₀ (K (F := F)).L (K (F := F)).lev
    (reg _ _ _) d none (fun _ h => nomatch h) _ _)
  show _ ⊢ iprop((iprop(boundary (SparseCore.T d : Thread nD τ) ∗ arrs (fun _ => val1 W (Proc.devRef .tc main_v2)) (fun _ => val1 W (Proc.devRef .tc main_v7)) d
      (nnOut (val1 W (Proc.devRef .tc main_v2)) (val1 W (Proc.devRef .tc main_v7))) ∗ owes0 d) -∗ _)
    ∗ boundary (SparseCore.T d : Thread nD τ) ∗ (arrs (fun _ => val1 W (Proc.devRef .tc main_v2)) (fun _ => val1 W (Proc.devRef .tc main_v7)) d
      (val1 W (Proc.devRef .tc main_v8)) ∗ owes0 d) ∗ levAts (K (F := F)).L (K (F := F)).lev ∗ cellsGhost (pin1 (F := F)) EP 0 d ∗ toksInit (pin1 (F := F)) EP 0 d)
  iintro ⟨#Hctx, Hb, ⟨HO, HR⟩, ⟨Harr, Hrest⟩, ⟨Hcg, Htk⟩, Hk⟩
  isplitl [HR Hrest Hk]
  · iintro ⟨Hb, Harr, HO⟩
    rw [wp_ret]
    imodintro
    iapply Hk
    isplitl [Hb]; · iexact Hb
    isplitl [HO HR]; · isplitl [HO] <;> iassumption
    isplitl [Harr] <;> iassumption
  isplitl [Hb]; · iexact Hb
  isplitl [Harr HO]; · isplitl [Harr] <;> iassumption
  isplitr; · iapply (SparseCore.Cfg.ctx_levAts κ); iexact Hctx
  isplitl [Hcg] <;> iassumption

/-- The SparseCores' call, from every array to every array. -/
theorem step_sc (κ : GSem nD τ sig → ℕ) (d : Dev nD) (Φ : PUnit → sProp 𝕄) :
    iprop((K (F := F)).ctx EH (Pm m) κ ∗ (K (F := F)).tcSt EH d 0 ∗ held (SparseCore.T d : Thread nD τ) (ucRefs τ sig) (val3 (val0 m d))
        ∗ (((K (F := F)).tcSt EH d 1 ∗ held (SparseCore.T d : Thread nD τ) (ucRefs τ sig) (val4 (val0 m d))) -∗ Φ ⟨⟩))
      ⊢ wp frame (wpE ((K (F := F)).defs (D (F := F))) 𝒱 (SparseCore.T d) none) Set.univ ((K (F := F)).run d 0) Φ := by
  refine BI.Entails.trans ?_ ((K (F := F)).wp_run (D (F := F)) 𝒱 (EH := EH) (P := Pm m) κ d 0)
  rw [st_eq, dn_eq, split_sc d (val3 (val0 m d)) (insAt m d) (outAt m d) rfl rfl,
    split_sc d (val4 (val0 m d)) (insAt m d) (outSpec (insAt m d)) (insOf_val4 _) (Function.update_self _ _ _), rest_sc]
  show iprop((K (F := F)).ctx EH (Pm m) κ ∗ (K (F := F)).tcSt EH d 0
      ∗ ((reads d (insAt m d) fullShare ∗ oLoc d ↦{fullShare} outAt m d) ∗ held (SparseCore.T d : Thread nD τ) (ucRefs τ sig \ scRefs) (val3 (val0 m d)))
      ∗ (((K (F := F)).tcSt EH d 1
        ∗ (reads d (insAt m d) fullShare ∗ oLoc d ↦{fullShare} outSpec (insAt m d)) ∗ held (SparseCore.T d : Thread nD τ) (ucRefs τ sig \ scRefs) (val3 (val0 m d))) -∗ Φ ⟨⟩))
    ⊢ iprop((K (F := F)).ctx EH (Pm m) κ ∗ (K (F := F)).tcSt EH d 0 ∗ (reads d (insAt m d) fullShare ∗ oLoc d ↦{fullShare} outAt m d)
      ∗ (((K (F := F)).tcSt EH d 1 ∗ reads d (insAt m d) fullShare ∗ oLoc d ↦{fullShare} outSpec (insAt m d)) -∗ Φ ⟨⟩))
  iintro ⟨#Hctx, Hst, ⟨Hin, Hrest⟩, Hk⟩
  isplitr; · iexact Hctx
  isplitl [Hst]; · iexact Hst
  isplitl [Hin]; · iexact Hin
  iintro ⟨Hst, Hout⟩
  iapply Hk
  isplitl [Hst]; · iexact Hst
  isplitl [Hout] <;> iassumption

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
    = held (SparseCore.T d : Thread nD τ) (ucRefs τ sig) (val0 m d) from unscopedBufs_held d (val0 m d)]
  iintro ⟨#Hctx, Hst, ⟨Hb, Hbufs, Hts, -⟩, HG⟩
  iapply (StableHlo.wp_seq (defs := (K (F := F)).defs (D (F := F))) 𝒱 none Set.univ d (ucRefs τ sig) _ ops1 sub1 fresh1 (val0 m d)) $$ [Hb Hbufs]
  · isplitl [Hb] <;> iassumption
  iintro ⟨Hb, Hbufs⟩
  iapply (Entails.of_eq (wp_bind frame (wpE ((K (F := F)).defs (D (F := F))) 𝒱 (SparseCore.T d) none) Set.univ callNN _ _).symm)
  iapply (step_nn m κ d (val0 m d) _) $$ [Hst Hb Hbufs HG Hts]
  isplitr; · iexact Hctx
  isplitl [Hb]; · iexact Hb
  isplitl [Hst]; · iexact Hst
  isplitl [Hbufs]; · iexact Hbufs
  isplitl [HG]; · iexact HG
  iintro ⟨Hb, Hst, Hbufs⟩
  iapply (StableHlo.wp_seq (defs := (K (F := F)).defs (D (F := F))) 𝒱 none Set.univ d (ucRefs τ sig) _ ops2 sub2 fresh2 (val2 (val0 m d))) $$ [Hb Hbufs]
  · isplitl [Hb] <;> iassumption
  iintro ⟨Hb, Hbufs⟩
  iapply (Entails.of_eq (wp_bind frame (wpE ((K (F := F)).defs (D (F := F))) 𝒱 (SparseCore.T d) none) Set.univ ((K (F := F)).run d 0) _ _).symm)
  iapply (step_sc m κ d _) $$ [Hst Hb Hbufs Hts]
  isplitr; · iexact Hctx
  isplitl [Hst]; · iexact Hst
  isplitl [Hbufs]; · iexact Hbufs
  iintro ⟨Hst, Hbufs⟩
  iapply (StableHlo.wp_seq (defs := (K (F := F)).defs (D (F := F))) 𝒱 none Set.univ d (ucRefs τ sig) _ ops3 sub3 fresh3 (val4 (val0 m d))) $$ [Hb Hbufs]
  · isplitl [Hb] <;> iassumption
  iintro ⟨Hb, Hbufs⟩
  ihave Hbufs := (Entails.of_eq (show (held d.tc (ucRefs τ sig) (StableHlo.after ops3 (val4 (val0 m d))) : sProp 𝕄) = _ from
    StableHlo.held_sub_split (SparseCore.T d : Thread nD τ) finRefs_sub (val5 (val0 m d)))) $$ Hbufs
  icases Hbufs with ⟨Hfin, -⟩
  iapply (Entails.of_eq (wp_pure frame (wpE ((K (F := F)).defs (D (F := F))) 𝒱 (SparseCore.T d) none) Set.univ _ _).symm)
  imodintro
  isplitl [Hst]; · iexact Hst
  isplitl [Hfin]; · iexact Hfin
  isplitl [Hb] <;> iassumption

def fq (d : Dev nD) (s' : Phys nD τ sig (Elt F)) : Prop :=
  ∀ r : Ref sig .tc, r = main_arg0 ∨ r = main_arg1 ∨ r = main_arg2 ∨ r = main_v41 →
    s'.mem.mem ((SparseCore.T d : Thread nD τ).loc r) = val5 (val0 m d) (Proc.devRef .tc r)

theorem hfin (d : Dev nD) (s' : Phys nD τ sig (Elt F)) : iprop(FIN m d ∗ SI s') ⊢ (⌜fq m d s'⌝ : sProp 𝕄) := by
  have one : ∀ j : {b // b ∈ finRefs}, iprop(FIN m d ∗ SI s') ⊢ (⌜s'.mem.mem (d, j.1) = val5 (val0 m d) j.1⌝ : sProp 𝕄) := fun j => by
    unfold FIN held
    refine Entails.trans (Laws.sep_mono_left (bigSep_elim j.2)) ?_
    refine Entails.trans ?_ (Laws.pure_mono fun (h : ∀ i ∈ Finset.univ, s'.mem.mem (d, j.1) i = val5 (val0 m d) j.1 i) => funext fun i => h i (Finset.mem_univ i))
    show iprop((((d, j.1) : Loc nD τ sig) ↦{fullShare} (val5 (val0 m d) j.1)) ∗ SI s') ⊢ _
    iintro ⟨Hb, HS⟩
    iapply SI_pointsTo_agree
    isplitl [HS] <;> iassumption
  exact ((Laws.forall_intro one).trans Laws.pure_forall.2).trans (Laws.pure_mono fun all r hr =>
    all ⟨Proc.devRef .tc r, by rcases hr with rfl | rfl | rfl | rfl <;> (unfold finRefs; decide)⟩)

/-- The run: on every device the arguments are as they were, the result is what @main's operations make of them, and no
    counter is left standing. -/
theorem run_kernel [∀ e, Nonempty (Elt F e)] (hA : ∀ d, (insAt m d).InRange) :
    θ_run (Cert.KernelIdeal.defs (F := F)) (Cert.KernelIdeal.threads (F := F)) ⟨m, fun _ => 0, ρ⟩
      (fun r => (∀ d, ∀ b : Ref sig .tc, b = main_arg0 ∨ b = main_arg1 ∨ b = main_arg2 ∨ b = main_v41 →
        r.2.mem ((SparseCore.T d : Thread nD τ).loc b) = val5 (val0 m d) (Proc.devRef .tc b)) ∧ r.2.sem = fun _ => 0) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ hA)
    (fun q _ => match q with | 0 => SparseCore.Cfg.VecSplit.of_plain (vecSplit _ _))
    m ρ main Gd (FIN m) (u₀ (F := F)) (sep_elim_left.trans (hu₀ m)) (hmain m ρ) (fq m) (hfin m) _ (fun _ h hz => ⟨h, hz⟩)

end Cert.Proof.Chamfer

end
-- ==== Proof.Nn.lean ====
/-
  The nearest-neighbour kernel over the extended reals: the index it leaves is that of the first key at the least distance.
-/
module

public import proofs.«01_k».proof.Proof.TcOut
public import Idealize.ShloMosaic.Lib.Pointwise
public import Idealize.ShloMosaic.Lib.WordArith

@[expose] public section

noncomputable section

namespace Cert.Proof.Chamfer

open Cert.KernelIdeal Cert.KernelIdeal.Gen
open Idealize.ShloMosaic

/-- `k` is the first index at which `D` is least. -/
def IsFirst (D : Fin 8192 → EReal) (k : Fin 8192) : Prop := (∀ j, D k ≤ D j) ∧ ∀ j, j < k → D k < D j

theorem IsFirst.unique {D : Fin 8192 → EReal} {k k' : Fin 8192} (h : IsFirst D k) (h' : IsFirst D k') : k = k' := by
  rcases lt_trichotomy k k' with hl | he | hl
  · exact absurd (h'.2 k hl) (not_lt.mpr (h.1 k'))
  · exact he
  · exact absurd (h.2 k' hl) (not_lt.mpr (h'.1 k))

theorem exists_isFirst (D : Fin 8192 → EReal) : ∃ k, IsFirst D k := by
  classical
  obtain ⟨k, hk⟩ := Finite.exists_min D
  have hex : ∃ n : ℕ, ∃ h : n < 8192, ∀ j, D ⟨n, h⟩ ≤ D j := ⟨k.val, k.isLt, hk⟩
  obtain ⟨h, hm⟩ := Nat.find_spec hex
  refine ⟨⟨Nat.find hex, h⟩, hm, fun j hj => lt_of_not_ge fun hge => ?_⟩
  exact Nat.find_min hex (m := j.val) hj ⟨j.isLt, fun i => hge.trans (hm i)⟩

/-- The least of words that are small naturals, as a natural. -/
theorem toNat_fold_minsi {ι : Type} [DecidableEq ι] (s : Finset ι) (f : ι → BitVec 32) (M : BitVec 32) (hM : M.toNat < 2 ^ 31) (hf : ∀ i, (f i).toNat < 2 ^ 31) :
    (s.fold IntOp.minsi M f).toNat = s.fold min M.toNat (fun i => (f i).toNat) := by
  induction s using Finset.induction_on with
  | empty => simp
  | insert a s ha ih =>
    rw [Finset.fold_insert ha, Finset.fold_insert ha, ← ih]
    refine WordArith.toNat_minsi_of_lt _ _ (hf a) ?_
    rw [ih]
    exact lt_of_le_of_lt ((Finset.fold_min_le _).mpr (Or.inl le_rfl)) hM

/-- The least index among those at the least value, as the kernel finds it. -/
def nnIdx (D : Fin 8192 → EReal) : BitVec 32 :=
  Finset.fold IntOp.minsi 2147483647#32
    (fun k : Fin 8192 => if D k ≤ Finset.fold min (Ideal.ofBits .f32 0x7F800000#32) D Finset.univ then BitVec.ofNat 32 k.val else 8192#32) Finset.univ

theorem top_word : Ideal.ofBits .f32 0x7F800000#32 = (⊤ : EReal) := by
  first | exact Ideal.ofBits_inf_f32 | (simp [Ideal.ofBits]; done) | rfl

theorem nnIdx_eq (D : Fin 8192 → EReal) (k : Fin 8192) (h : IsFirst D k) : nnIdx D = BitVec.ofNat 32 k.val := by
  have hle : ∀ j, (D j ≤ Finset.fold min (Ideal.ofBits .f32 0x7F800000#32) D Finset.univ) ↔ ∀ i, D j ≤ D i := fun j => by
    rw [Finset.le_fold_min, top_word]; simp
  have hk := k.isLt
  apply BitVec.eq_of_toNat_eq
  unfold nnIdx
  rw [toNat_fold_minsi _ _ _ (by decide) (fun i => by have := i.isLt; split <;> simp <;> omega)]
  simp only [hle]
  rw [show (BitVec.ofNat 32 k.val).toNat = k.val by rw [BitVec.toNat_ofNat, Nat.mod_eq_of_lt (by omega)]]
  apply le_antisymm
  · rw [Finset.fold_min_le]
    refine Or.inr ⟨k, Finset.mem_univ _, ?_⟩
    rw [if_pos h.1]; exact le_of_eq (by rw [BitVec.toNat_ofNat, Nat.mod_eq_of_lt (by omega)])
  · rw [Finset.le_fold_min]
    refine ⟨by simp; omega, fun j _ => ?_⟩
    have hj := j.isLt
    split
    · next hj' =>
      rw [show (BitVec.ofNat 32 j.val).toNat = j.val by rw [BitVec.toNat_ofNat, Nat.mod_eq_of_lt (by omega)]]
      by_contra hlt
      exact absurd (h.2 j (Fin.lt_def.mpr (not_le.mp hlt))) (not_lt.mpr (hj' k))
    · first | (simp; omega) | simp

theorem nnIdx_lt (D : Fin 8192 → EReal) : (nnIdx D).toNat < 8192 := by
  obtain ⟨k, hk⟩ := exists_isFirst D
  rw [nnIdx_eq D k hk]
  have := k.isLt
  simp; omega

/-- The distance the kernel compares: the query's cross terms with the key, and the key's square in three parts. -/
def kdist (qx qy kx ky : EReal) : EReal :=
  qx * (Ideal.ofBits .f32 0xC0000000#32 * kx) + qy * (Ideal.ofBits .f32 0xC0000000#32 * ky) + (kx * kx + ky * ky)
    + ((kx * kx + ky * ky) - (kx * kx + ky * ky)) + ((kx * kx + ky * ky) - (kx * kx + ky * ky) - ((kx * kx + ky * ky) - (kx * kx + ky * ky)))

theorem cmp_eq (a : Fin 8) (b : Fin 5) : IntOp.cmpi .eq (BitVec.ofNat 32 a.val) (BitVec.ofNat 32 b.val) = if a.val = b.val then 1#1 else 0#1 := by
  revert a b; decide
theorem cmp_lt (a : Fin 8) : IntOp.cmpi .slt (BitVec.ofNat 32 a.val) 5#32 = if a.val < 5 then 1#1 else 0#1 := by
  revert a; decide

set_option maxRecDepth 16384 in
set_option maxHeartbeats 4000000 in
theorem nnBlk_at (x : S256x2.Idx → Elt Ideal .f32) (y : S1x2x8192.Idx → Elt Ideal .f32) (r : Fin 256) :
    nnBlk (F := Ideal) x y (ix3 0 0 r) = nnIdx fun k => kdist (x (ix2 r 0)) (x (ix2 r 1)) (y (ix3 0 0 k)) (y (ix3 0 1 k)) := by
  unfold nnBlk
  pointwise [k0_pay1, k0_pay11, k0_pay9, k0_pay10, k0_pay2, k0_pay3, k0_pay4, k0_pay5, k0_pay6, k0_pay7, k0_pay8]
  unfold nnIdx
  have c0 (a : Fin 8) := cmp_eq a 0
  have c1 (a : Fin 8) := cmp_eq a 1
  have c2 (a : Fin 8) := cmp_eq a 2
  have c3 (a : Fin 8) := cmp_eq a 3
  have c4 (a : Fin 8) := cmp_eq a 4
  change ∀ a : Fin 8, IntOp.cmpi .eq (BitVec.ofNat 32 a.val) 0#32 = if a.val = 0 then 1#1 else 0#1 at c0
  change ∀ a : Fin 8, IntOp.cmpi .eq (BitVec.ofNat 32 a.val) 1#32 = if a.val = 1 then 1#1 else 0#1 at c1
  change ∀ a : Fin 8, IntOp.cmpi .eq (BitVec.ofNat 32 a.val) 2#32 = if a.val = 2 then 1#1 else 0#1 at c2
  change ∀ a : Fin 8, IntOp.cmpi .eq (BitVec.ofNat 32 a.val) 3#32 = if a.val = 3 then 1#1 else 0#1 at c3
  change ∀ a : Fin 8, IntOp.cmpi .eq (BitVec.ofNat 32 a.val) 4#32 = if a.val = 4 then 1#1 else 0#1 at c4
  simp only [c0, c1, c2, c3, c4, cmp_lt]
  simp only [Fin.sum_univ_eight, Fin.coe_ofNat_eq_mod, Nat.reduceMod, Nat.reduceEqDiff, Nat.reduceLT, reduceIte, ValueIdx.select_one, ValueIdx.select_zero,
    zero_mul, mul_zero, one_mul, add_zero]
  unfold kdist
  rfl

theorem ix3_eta (r : Fin 256) (h : r.val < 256) :
    (fun | 0 => ⟨0, Nat.one_pos⟩ | 1 => ⟨0, Nat.one_pos⟩ | 2 => ⟨r.val, h⟩ : S1x1x256.Idx) = ix3 0 0 r := by
  funext a
  match a with
  | 0 => rfl
  | 1 => rfl
  | 2 => rfl

set_option maxRecDepth 16384 in
/-- The index left for query point `256 i + r`. -/
theorem nnOut_ideal (x2 : S16384x2.Idx → Elt Ideal .f32) (x7 : S2x2x8192.Idx → Elt Ideal .f32) (i : Fin 64) (r : Fin 256) :
    nnOut (F := Ideal) x2 x7 (ix3 i 0 r) = nnIdx fun k => kdist (x2 (ix2 ⟨256 * i.val + r.val, by omega⟩ 0)) (x2 (ix2 ⟨256 * i.val + r.val, by omega⟩ 1))
      (x7 (ix3 ⟨i.val / 32, by omega⟩ 0 k)) (x7 (ix3 ⟨i.val / 32, by omega⟩ 1 k)) := by
  have e : nnOut (F := Ideal) x2 x7 (ix3 i 0 r) = nnBlk (F := Ideal) (qRows x2 i) (kSet x7 ⟨i.val / 32, by omega⟩) (ix3 0 0 r) :=
    congrArg (nnBlk (F := Ideal) (qRows x2 i) (kSet x7 ⟨i.val / 32, by omega⟩)) (ix3_eta r r.isLt)
  have q (c : Fin 2) : qRows x2 i (ix2 r c) = x2 (ix2 ⟨256 * i.val + r.val, by omega⟩ c) := by
    refine congrArg x2 (funext fun a => ?_)
    match a with
    | 0 => rfl
    | 1 => rfl
  have k' (c : Fin 2) (k : Fin 8192) : kSet x7 ⟨i.val / 32, by omega⟩ (ix3 0 c k) = x7 (ix3 ⟨i.val / 32, by omega⟩ c k) := by
    refine congrArg x7 (funext fun a => ?_)
    match a with
    | 0 => rfl
    | 1 => rfl
    | 2 => rfl
  rw [e, nnBlk_at]
  simp only [q, k']

/-- Every index the kernel leaves is that of a key. -/
theorem nnOut_lt (x2 : S16384x2.Idx → Elt Ideal .f32) (x7 : S2x2x8192.Idx → Elt Ideal .f32) (i : Fin 64) (r : Fin 256) :
    (nnOut (F := Ideal) x2 x7 (ix3 i 0 r)).toNat < 8192 := by
  rw [nnOut_ideal]; exact nnIdx_lt _

end Cert.Proof.Chamfer

end
-- ==== Proof.HostVal.lean ====
/-
  What @main's host operations make of the arrays, read at an index over the extended reals.
-/
module

public import proofs.«01_k».proof.Proof.Host
public import proofs.«01_k».proof.Proof.Nn

@[expose] public section

noncomputable section

namespace Cert.Proof.Chamfer

open Cert.KernelIdeal Cert.KernelIdeal.Gen
open Idealize.ShloMosaic
open Idealize.ShloMosaic.StableHlo (after)

section

variable (W : Valuation τ sig (Elt Ideal))

/-- The two points' arrays and the coefficients, as the arguments hold them. -/
def argP (n : Fin 8192) (c : Fin 2) : EReal := (W (Proc.devRef .tc main_arg0) : S8192x4.Idx → EReal) (ix2 n ⟨c.val, by omega⟩)
def argT (n : Fin 8192) (c : Fin 2) : EReal := (W (Proc.devRef .tc main_arg1) : S8192x4.Idx → EReal) (ix2 n ⟨c.val, by omega⟩)

set_option maxHeartbeats 1000000
set_option maxRecDepth 16384

theorem v0_at (n : Fin 8192) (c : Fin 2) : (val1 W (Proc.devRef .tc main_v0) : S8192x2.Idx → EReal) (ix2 n c) = argP W n c := by
  have e : (val1 W (Proc.devRef .tc main_v0) : S8192x2.Idx → EReal)
      = extractStridedSlice S8192x2 ![0, 0] (W (Proc.devRef .tc main_arg0) : S8192x4.Idx → EReal) slices_S8192x4_S8192x2_0_0 := by
    unfold val1 ops1; after_results; try rfl
  rw [e]
  pointwise [argP]
theorem v1_at (n : Fin 8192) (c : Fin 2) : (val1 W (Proc.devRef .tc main_v1) : S8192x2.Idx → EReal) (ix2 n c) = argT W n c := by
  have e : (val1 W (Proc.devRef .tc main_v1) : S8192x2.Idx → EReal)
      = extractStridedSlice S8192x2 ![0, 0] (W (Proc.devRef .tc main_arg1) : S8192x4.Idx → EReal) slices_S8192x4_S8192x2_0_0 := by
    unfold val1 ops1; after_results; try rfl
  rw [e]
  pointwise [argT]

/-- The query points: the predictions, then the targets. -/
theorem v2_at (n : Fin 16384) (c : Fin 2) : (val1 W (Proc.devRef .tc main_v2) : S16384x2.Idx → EReal) (ix2 n c)
    = if h : n.val < 8192 then argP W ⟨n.val, h⟩ c else argT W ⟨n.val - 8192, by omega⟩ c := by
  have e : (val1 W (Proc.devRef .tc main_v2) : S16384x2.Idx → EReal)
      = concatenate S16384x2 0 [⟨S8192x2, (val1 W (Proc.devRef .tc main_v0) : S8192x2.Idx → EReal)⟩,
          ⟨S8192x2, (val1 W (Proc.devRef .tc main_v1) : S8192x2.Idx → EReal)⟩] concatenates_S8192x2_S8192x2_S16384x2_d0 := by
    unfold val1 ops1; after_results; try rfl
  rw [e]
  pointwise []
  split
  · exact v0_at W _ c
  · exact v1_at W _ c

/-- The key points: the targets, then the predictions. -/
theorem v7_at (s : Fin 2) (c : Fin 2) (k : Fin 8192) : (val1 W (Proc.devRef .tc main_v7) : S2x2x8192.Idx → EReal) (ix3 s c k)
    = if s.val < 1 then argT W k c else argP W k c := by
  have e : (val1 W (Proc.devRef .tc main_v7) : S2x2x8192.Idx → EReal)
      = concatenate S2x2x8192 0 [⟨S1x2x8192, broadcastInDim S1x2x8192 ![1, 2] bcast_S2x8192_S1x2x8192_1_2
            (transpose S2x8192 [1, 0] (val1 W (Proc.devRef .tc main_v1) : S8192x2.Idx → EReal) transposes_S8192x2_S2x8192_1_0)⟩,
          ⟨S1x2x8192, broadcastInDim S1x2x8192 ![1, 2] bcast_S2x8192_S1x2x8192_1_2
            (transpose S2x8192 [1, 0] (val1 W (Proc.devRef .tc main_v0) : S8192x2.Idx → EReal) transposes_S8192x2_S2x8192_1_0)⟩]
          concatenates_S1x2x8192_S1x2x8192_S2x2x8192_d0 := by
    unfold val1 ops1; after_results; try rfl
  rw [e]
  pointwise []
  split
  · exact v1_at W k c
  · exact v0_at W k c

theorem val2_v0 : val2 W (Proc.devRef .tc main_v0) = val1 W (Proc.devRef .tc main_v0) :=
  Function.update_of_ne (StableHlo.devRef_ne_of_ne (by decide)) _ _
theorem val2_v1 : val2 W (Proc.devRef .tc main_v1) = val1 W (Proc.devRef .tc main_v1) :=
  Function.update_of_ne (StableHlo.devRef_ne_of_ne (by decide)) _ _

theorem px_at (n : Fin 8192) : (val3 W (Proc.devRef .tc main_v11) : S8192.Idx → EReal) (ix1 n) = argP W n 0 := by
  have e : (val3 W (Proc.devRef .tc main_v11) : S8192.Idx → EReal)
      = shapeCast S8192 (extractStridedSlice S8192x1 ![0, 0] (val2 W (Proc.devRef .tc main_v0) : S8192x2.Idx → EReal) slices_S8192x2_S8192x1_0_0) shapeCasts_S8192x1_S8192 := by
    unfold val3 ops2; after_results; try rfl
  rw [e, val2_v0]
  pointwise []
  exact v0_at W n 0
theorem py_at (n : Fin 8192) : (val3 W (Proc.devRef .tc main_v13) : S8192.Idx → EReal) (ix1 n) = argP W n 1 := by
  have e : (val3 W (Proc.devRef .tc main_v13) : S8192.Idx → EReal)
      = shapeCast S8192 (extractStridedSlice S8192x1 ![0, 1] (val2 W (Proc.devRef .tc main_v0) : S8192x2.Idx → EReal) slices_S8192x2_S8192x1_0_1) shapeCasts_S8192x1_S8192 := by
    unfold val3 ops2; after_results; try rfl
  rw [e, val2_v0]
  pointwise []
  exact v0_at W n 1
theorem tx_at (n : Fin 8192) : (val3 W (Proc.devRef .tc main_v15) : S8192.Idx → EReal) (ix1 n) = argT W n 0 := by
  have e : (val3 W (Proc.devRef .tc main_v15) : S8192.Idx → EReal)
      = shapeCast S8192 (extractStridedSlice S8192x1 ![0, 0] (val2 W (Proc.devRef .tc main_v1) : S8192x2.Idx → EReal) slices_S8192x2_S8192x1_0_0) shapeCasts_S8192x1_S8192 := by
    unfold val3 ops2; after_results; try rfl
  rw [e, val2_v1]
  pointwise []
  exact v1_at W n 0
theorem ty_at (n : Fin 8192) : (val3 W (Proc.devRef .tc main_v17) : S8192.Idx → EReal) (ix1 n) = argT W n 1 := by
  have e : (val3 W (Proc.devRef .tc main_v17) : S8192.Idx → EReal)
      = shapeCast S8192 (extractStridedSlice S8192x1 ![0, 1] (val2 W (Proc.devRef .tc main_v1) : S8192x2.Idx → EReal) slices_S8192x2_S8192x1_0_1) shapeCasts_S8192x1_S8192 := by
    unfold val3 ops2; after_results; try rfl
  rw [e, val2_v1]
  pointwise []
  exact v1_at W n 1

/-- The indices the SparseCores read: the nearest target of each prediction, and the nearest prediction of each target. -/
theorem ig_at (n : Fin 8192) : (val3 W (Proc.devRef .tc main_v19) : S8192.Idx → BitVec 32) (ix1 n)
    = nnIdx fun k => kdist (argP W n 0) (argP W n 1) (argT W k 0) (argT W k 1) := by
  have e : (val3 W (Proc.devRef .tc main_v19) : S8192.Idx → BitVec 32)
      = shapeCast S8192 (extractStridedSlice S1x8192 ![0, 0] (shapeCast S2x8192 (val2 W (Proc.devRef .tc main_v8) : S64x1x256.Idx → BitVec 32)
          shapeCasts_S64x1x256_S2x8192) slices_S2x8192_S1x8192_0_0) shapeCasts_S1x8192_S8192 := by
    unfold val3 ops2; after_results; try rfl
  rw [e, val2, Function.update_self]
  pointwise []
  rw [nnOut_ideal]
  refine congrArg nnIdx (funext fun k => ?_)
  rw [v2_at, v2_at, v7_at, v7_at, dif_pos (by show 256 * (n.val / 256) + n.val % 256 < 8192; omega),
    dif_pos (by show 256 * (n.val / 256) + n.val % 256 < 8192; omega), if_pos (by show n.val / 256 / 32 < 1; omega),
    if_pos (by show n.val / 256 / 32 < 1; omega)]
  have en : (⟨256 * (n.val / 256) + n.val % 256, by omega⟩ : Fin 8192) = n := Fin.ext (by show 256 * (n.val / 256) + n.val % 256 = n.val; omega)
  exact congrArg (fun a : Fin 8192 => kdist (argP W a 0) (argP W a 1) (argT W k 0) (argT W k 1)) en

theorem ip_at (n : Fin 8192) : (val3 W (Proc.devRef .tc main_v21) : S8192.Idx → BitVec 32) (ix1 n)
    = nnIdx fun k => kdist (argT W n 0) (argT W n 1) (argP W k 0) (argP W k 1) := by
  have e : (val3 W (Proc.devRef .tc main_v21) : S8192.Idx → BitVec 32)
      = shapeCast S8192 (extractStridedSlice S1x8192 ![1, 0] (shapeCast S2x8192 (val2 W (Proc.devRef .tc main_v8) : S64x1x256.Idx → BitVec 32)
          shapeCasts_S64x1x256_S2x8192) slices_S2x8192_S1x8192_1_0) shapeCasts_S1x8192_S8192 := by
    unfold val3 ops2; after_results; try rfl
  rw [e, val2, Function.update_self]
  pointwise []
  rw [nnOut_ideal]
  refine congrArg nnIdx (funext fun k => ?_)
  rw [v2_at, v2_at, v7_at, v7_at, dif_neg (by show ¬ 256 * (32 + n.val / 256) + n.val % 256 < 8192; omega),
    dif_neg (by show ¬ 256 * (32 + n.val / 256) + n.val % 256 < 8192; omega), if_neg (by show ¬ (32 + n.val / 256) / 32 < 1; omega),
    if_neg (by show ¬ (32 + n.val / 256) / 32 < 1; omega)]
  have en : (⟨256 * (32 + n.val / 256) + n.val % 256 - 8192, by omega⟩ : Fin 8192) = n :=
    Fin.ext (by show 256 * (32 + n.val / 256) + n.val % 256 - 8192 = n.val; omega)
  exact congrArg (fun a : Fin 8192 => kdist (argT W a 0) (argT W a 1) (argP W k 0) (argP W k 1)) en

theorem insOf_ig : (insOf W).ig = (W (Proc.devRef .tc main_v19) : S8192.Idx → BitVec 32) := rfl
theorem insOf_ip : (insOf W).ip = (W (Proc.devRef .tc main_v21) : S8192.Idx → BitVec 32) := rfl

/-- The indices the SparseCores read number a point of the other set. -/
theorem insOf_inRange : (insOf (val3 W)).InRange := by
  constructor
  · intro x
    obtain ⟨n, rfl⟩ : ∃ n : Fin 8192, x = ix1 n := ⟨x 0, eq_ix1 x⟩
    have h := nnIdx_lt fun k => kdist (argP W n 0) (argP W n 1) (argT W k 0) (argT W k 1)
    rw [← ig_at W n] at h
    rw [insOf_ig]
    exact h
  · intro x
    obtain ⟨n, rfl⟩ : ∃ n : Fin 8192, x = ix1 n := ⟨x 0, eq_ix1 x⟩
    have h := nnIdx_lt fun k => kdist (argT W n 0) (argT W n 1) (argP W k 0) (argP W k 1)
    rw [← ip_at W n] at h
    rw [insOf_ip]
    exact h

end

end Cert.Proof.Chamfer

end
-- ==== Proof.KernelFrame.lean ====
/-
  The kernel's run over the extended reals, with nothing left to assume.
-/
module

public import proofs.«01_k».proof.Proof.Run
public import proofs.«01_k».proof.Proof.HostVal
public import Idealize.ShloMosaic.Lib.StableHlo.RunHlo

@[expose] public section

noncomputable section

namespace Cert.Proof.Chamfer

open Cert.KernelIdeal Cert.KernelIdeal.Gen
open Idealize.ShloMosaic Idealize.SL.Sem

/-- From any memory the kernel runs; on every device its arguments end as they were, its result is what @main's operations
    make of them, and no semaphore counter is left standing. -/
theorem kernel_run (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r => (∀ c : Dev nD,
      r.2.mem ((c.tc : Thread nD τ).loc main_v41) = val5 (val0 m c) (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (run_kernel m g fun d => insOf_inRange (val0 m d)) fun r h => ⟨fun c => ⟨?_, ?_, ?_, ?_⟩, h.2⟩
  · exact h.1 c main_v41 (.inr (.inr (.inr rfl)))
  · exact (h.1 c main_arg0 (.inl rfl)).trans (val5_arg (val0 m c) main_arg0 (.inl rfl))
  · exact (h.1 c main_arg1 (.inr (.inl rfl))).trans (val5_arg (val0 m c) main_arg1 (.inr (.inl rfl)))
  · exact (h.1 c main_arg2 (.inr (.inr (.inl rfl)))).trans (val5_arg (val0 m c) main_arg2 (.inr (.inr rfl)))

end Cert.Proof.Chamfer

end
-- ==== Proof.Ref.lean ====
/-
  What the reference computes: its operations composed.
-/
module

public import proofs.«01_k».proof.ReferenceIdeal
public import proofs.«01_k».proof.Proof.Gen.ReferenceIdeal
public import Idealize.ShloMosaic.PureOps.Ideal

@[expose] public section

noncomputable section

namespace Cert.Proof.Chamfer.Ref

open Cert.ReferenceIdeal Cert.ReferenceIdeal.Facts₀ Cert.ReferenceIdeal.Facts
open Idealize.ShloMosaic Idealize.SL.Sem

attribute [local instance] Cert.ReferenceIdeal.Gen.facts

/-- An array of extended reals, one of words, and one of single bits. -/
abbrev Vals (S : Shape) : Type := FVec Ideal S .f32
abbrev Words (S : Shape) : Type := IVec S 32
abbrev Bits1 (S : Shape) : Type := IVec S 1

/-- The column numbers that the reference takes, counted from the end where negative. -/
def cols : Words S2 := fun i => lit0 (S2.rowMajor i)
def colIdx : Words S2x1 :=
  broadcastInDim S2x1 ![0] bcast_S2_S2x1_0
    (select (cmpi .slt cols (broadcastInDim S2 ![] bcast_S_S2 (constantI S_ 32 0#32)))
      (addi cols (broadcastInDim S2 ![] bcast_S_S2 (constantI S_ 32 4#32))) cols)
/-- Which of them name a column. -/
def colOk : Bits1 S2 :=
  Host.reduce IntOp.andi
    (andi (cmpi .sge colIdx (broadcastInDim S2x1 ![] bcast_S_S2x1 (constantI S_ 32 0#32)))
      (cmpi .sle colIdx (broadcastInDim S2x1 ![0, 1] bcast_S1x1_S2x1_0_1 (broadcastInDim S1x1 ![1] bcast_S1_S1x1_1 (constantI S1 32 3#32)))))
    (constantI S_ 1 1#1) reducesTo_S2x1_S2_d1 h_S_
/-- The two columns taken. -/
def take (x : Vals S8192x4) : Vals S8192x2 :=
  select (broadcastInDim S8192x2 ![1] bcast_S2_S8192x2_1 colOk)
    (Host.gather gather_S8192x4_S2x1_S8192x2_0_1_n_n_1_1_81921 x colIdx)
    (broadcastInDim S8192x2 ![] bcast_S_S8192x2 (constant (F := Ideal) S_ .f32 0x7FC00000#32))

/-- A point's squared norm. -/
def norms (q : Vals S8192x2) : Vals S8192 :=
  Host.reduceAdd (mulf q q) (constant (F := Ideal) S_ .f32 0x00000000#32) reducesTo_S8192x2_S8192_d1 h_S_
/-- The squared distances of every query from every key. -/
def dist (q k : Vals S8192x2) : Vals S8192x8192 :=
  subf
    (addf (broadcastInDim S8192x8192 ![0, 1] bcast_S8192x1_S8192x8192_0_1 (broadcastInDim S8192x1 ![0] bcast_S8192_S8192x1_0 (norms q)))
      (broadcastInDim S8192x8192 ![0, 1] bcast_S1x8192_S8192x8192_0_1 (broadcastInDim S1x8192 ![1] bcast_S8192_S1x8192_1 (norms k))))
    (mulf (broadcastInDim S8192x8192 ![] bcast_S_S8192x8192 (constant (F := Ideal) S_ .f32 0x40000000#32))
      (Host.dotGeneral dot_S8192x2_S2x8192_S8192x8192_1_0_0_1_n_n none q (transpose S2x8192 [1, 0] k transposes_S8192x2_S2x8192_1_0)))
/-- The second components of an array of pairs. -/
def seconds (r : S8192.Idx → EReal × BitVec 32) : Words S8192 := fun j => (r j).2
/-- Each row's least entry's column. -/
def argMin (d : Vals S8192x8192) : Words S8192 :=
  seconds (Host.argReduce reducer_argmin_f32_i32 d (iotaInDim S8192x8192 32 1) (constant (F := Ideal) S_ .f32 0x7F800000#32) (constantI S_ 32 0#32)
    reducesTo_S8192x8192_S8192_d1 h_S_)
/-- The keys' rows that the indices name. -/
def pick (k : Vals S8192x2) (i : Words S8192) : Vals S8192x2 :=
  Host.gather gather_S8192x2_S8192x1_S8192x2_1_0_n_n_0_1_12 k
    (broadcastInDim S8192x1 ![0] bcast_S8192_S8192x1_0
      (select (cmpi .slt i (broadcastInDim S8192 ![] bcast_S_S8192 (constantI S_ 32 0#32)))
        (addi i (broadcastInDim S8192 ![] bcast_S_S8192 (constantI S_ 32 8192#32))) i))
def nearest (q k : Vals S8192x2) : Vals S8192x2 := pick k (argMin (dist q k))
/-- The two losses, and the result. -/
def lossP (p t : Vals S8192x2) (s : Vals S2) : Vals S_ :=
  Host.reduceAdd (mulf (Host.absf (subf p (nearest p t)))
      (broadcastInDim S8192x2 ![0, 1] bcast_S1x2_S8192x2_0_1 (broadcastInDim S1x2 ![1] bcast_S2_S1x2_1 s)))
    (constant (F := Ideal) S_ .f32 0x00000000#32) reducesTo_S8192x2_S_d0_1 h_S_
def lossT (p t : Vals S8192x2) : Vals S_ :=
  Host.reduceAdd (Host.absf (subf (nearest t p) t)) (constant (F := Ideal) S_ .f32 0x00000000#32) reducesTo_S8192x2_S_d0_1 h_S_
def loss (x y : Vals S8192x4) (s : Vals S2) : Vals S_ :=
  addf (lossT (take x) (take y)) (lossP (take x) (take y) s)

end Cert.Proof.Chamfer.Ref

end
-- ==== Proof.RefRun.lean ====
/-
  The reference's run: its operations stretch by stretch, and what each stretch leaves in the buffers that are read later.
-/
module

public import proofs.«01_k».proof.Proof.Ref
public import Idealize.ShloMosaic.Lib.Claim
public import Idealize.ShloMosaic.Lib.Quiescent
public import Idealize.ShloMosaic.Lib.StableHlo.RunHlo

@[expose] public section

noncomputable section

namespace Cert.Proof.Chamfer.Ref

open Cert.ReferenceIdeal Cert.ReferenceIdeal.Facts₀ Cert.ReferenceIdeal.Facts
open Idealize.ShloMosaic Idealize.SL.Sem
open Idealize.ShloMosaic.StableHlo (after after_append)

attribute [local instance] Cert.ReferenceIdeal.Gen.facts

variable {F : FTy → Type} [FloatOps F]

/-- The operations of one call of the column reader, and of the arg-min. -/
def takeOps (arg0 : StableHlo.TRef sig ⟨S8192x4, .f32⟩) (arg1 : StableHlo.TRef sig ⟨S2, .i32⟩) (φ : fn_take.Bufs) : List (HloOp τ sig (Elt F)) :=
  [StableHlo.TRef.nullary φ.c (constantI S_ 32 0#32),
   StableHlo.TRef.unary φ.c φ.v0 (broadcastInDim S2 ![] bcast_S_S2),
   StableHlo.TRef.binary arg1 φ.v0 φ.v1 (cmpi .slt),
   StableHlo.TRef.nullary φ.c_0 (constantI S_ 32 4#32),
   StableHlo.TRef.unary φ.c_0 φ.v2 (broadcastInDim S2 ![] bcast_S_S2),
   StableHlo.TRef.binary arg1 φ.v2 φ.v3 addi,
   StableHlo.TRef.ternary φ.v1 φ.v3 arg1 φ.call0.v0 select,
   StableHlo.TRef.unary φ.call0.v0 φ.v5 (broadcastInDim S2x1 ![0] bcast_S2_S2x1_0),
   StableHlo.TRef.nullary φ.c_1 (constantI S1 32 3#32),
   StableHlo.TRef.nullary φ.c_2 (constantI S_ 32 0#32),
   StableHlo.TRef.unary φ.c_2 φ.v6 (broadcastInDim S2x1 ![] bcast_S_S2x1),
   StableHlo.TRef.binary φ.v5 φ.v6 φ.v7 (cmpi .sge),
   StableHlo.TRef.unary φ.c_1 φ.v8 (broadcastInDim S1x1 ![1] bcast_S1_S1x1_1),
   StableHlo.TRef.unary φ.v8 φ.v9 (broadcastInDim S2x1 ![0, 1] bcast_S1x1_S2x1_0_1),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S2x1_S2_d1 h_S_),
   StableHlo.TRef.binary arg0 φ.v5 φ.v13 (fun x i => Host.gather gather_S8192x4_S2x1_S8192x2_0_1_n_n_1_1_81921 x i),
   StableHlo.TRef.unary φ.v12 φ.v14 (broadcastInDim S8192x2 ![1] bcast_S2_S8192x2_1),
   StableHlo.TRef.nullary φ.cst (constant S_ .f32 0x7FC00000#32),
   StableHlo.TRef.unary φ.cst φ.v15 (broadcastInDim S8192x2 ![] bcast_S_S8192x2),
   StableHlo.TRef.ternary φ.v14 φ.v13 φ.v15 φ.v16 select]
def argOps (arg0 : StableHlo.TRef sig ⟨S8192x8192, .f32⟩) (φ : fn_argmin.Bufs) : List (HloOp τ sig (Elt F)) :=
  [StableHlo.TRef.nullary φ.v0 (iotaInDim S8192x8192 32 1),
   StableHlo.TRef.nullary φ.cst (constant S_ .f32 0x7F800000#32),
   StableHlo.TRef.nullary φ.c (constantI S_ 32 0#32),
   StableHlo.TRef.quaternary arg0 φ.v0 φ.cst φ.c φ.v1_0 (fun x y u v j => (Host.argReduce reducer_argmin_f32_i32 x y u v reducesTo_S8192x8192_S8192_d1 h_S_ j).1),
   StableHlo.TRef.quaternary arg0 φ.v0 φ.cst φ.c φ.v1_1 (fun x y u v j => (Host.argReduce reducer_argmin_f32_i32 x y u v reducesTo_S8192x8192_S8192_d1 h_S_ j).2)]
/-- @main's own stretches between the calls. -/
def ops0 : List (HloOp τ sig (Elt F)) := [StableHlo.nullary main_c (fun i => lit0 (S2.rowMajor i))]
def ops3 : List (HloOp τ sig (Elt F)) :=
  [StableHlo.binary main_v0 main_v0 main_v2 (mulf : (⟨S8192x2, .f32⟩ : BufTy).Contents (Elt F) → (⟨S8192x2, .f32⟩ : BufTy).Contents (Elt F) → (⟨S8192x2, .f32⟩ : BufTy).Contents (Elt F)),
   StableHlo.nullary main_cst (constant S_ .f32 0x00000000#32),
   StableHlo.binary main_v2 main_cst main_v3 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
   StableHlo.binary main_v1 main_v1 main_v4 (mulf : (⟨S8192x2, .f32⟩ : BufTy).Contents (Elt F) → (⟨S8192x2, .f32⟩ : BufTy).Contents (Elt F) → (⟨S8192x2, .f32⟩ : BufTy).Contents (Elt F)),
   StableHlo.nullary main_cst_0 (constant S_ .f32 0x00000000#32),
   StableHlo.binary main_v4 main_cst_0 main_v5 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
   StableHlo.unary main_v3 main_v6 (broadcastInDim S8192x1 ![0] bcast_S8192_S8192x1_0 : (⟨S8192, .f32⟩ : BufTy).Contents (Elt F) → (⟨S8192x1, .f32⟩ : BufTy).Contents (Elt F)),
   StableHlo.unary main_v5 main_v7 (broadcastInDim S1x8192 ![1] bcast_S8192_S1x8192_1 : (⟨S8192, .f32⟩ : BufTy).Contents (Elt F) → (⟨S1x8192, .f32⟩ : BufTy).Contents (Elt F)),
   StableHlo.unary main_v6 main_v8 (broadcastInDim S8192x8192 ![0, 1] bcast_S8192x1_S8192x8192_0_1 : (⟨S8192x1, .f32⟩ : BufTy).Contents (Elt F) → (⟨S8192x8192, .f32⟩ : BufTy).Contents (Elt F)),
   StableHlo.unary main_v7 main_v9 (broadcastInDim S8192x8192 ![0, 1] bcast_S1x8192_S8192x8192_0_1 : (⟨S1x8192, .f32⟩ : BufTy).Contents (Elt F) → (⟨S8192x8192, .f32⟩ : BufTy).Contents (Elt F)),
   StableHlo.binary main_v8 main_v9 main_v10 (addf : (⟨S8192x8192, .f32⟩ : BufTy).Contents (Elt F) → (⟨S8192x8192, .f32⟩ : BufTy).Contents (Elt F) → (⟨S8192x8192, .f32⟩ : BufTy).Contents (Elt F)),
   StableHlo.unary main_v1 main_v11 ((transpose S2x8192 [1, 0] · transposes_S8192x2_S2x8192_1_0) : (⟨S8192x2, .f32⟩ : BufTy).Contents (Elt F) → (⟨S2x8192, .f32⟩ : BufTy).Contents (Elt F)),
   StableHlo.binary main_v0 main_v11 main_v12 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
   StableHlo.nullary main_cst_1 (constant S_ .f32 0x40000000#32),
   StableHlo.unary main_cst_1 main_v13 (broadcastInDim S8192x8192 ![] bcast_S_S8192x8192 : (⟨S_, .f32⟩ : BufTy).Contents (Elt F) → (⟨S8192x8192, .f32⟩ : BufTy).Contents (Elt F)),
   StableHlo.binary main_v13 main_v12 main_v14 (mulf : (⟨S8192x8192, .f32⟩ : BufTy).Contents (Elt F) → (⟨S8192x8192, .f32⟩ : BufTy).Contents (Elt F) → (⟨S8192x8192, .f32⟩ : BufTy).Contents (Elt F)),
   StableHlo.binary main_v10 main_v14 main_v15 (subf : (⟨S8192x8192, .f32⟩ : BufTy).Contents (Elt F) → (⟨S8192x8192, .f32⟩ : BufTy).Contents (Elt F) → (⟨S8192x8192, .f32⟩ : BufTy).Contents (Elt F))]
def ops5 : List (HloOp τ sig (Elt F)) :=
  [StableHlo.nullary main_c_2 (constantI S_ 32 0#32),
   StableHlo.unary main_c_2 main_v17 (broadcastInDim S8192 ![] bcast_S_S8192 : (⟨S_, .i32⟩ : BufTy).Contents (Elt F) → (⟨S8192, .i32⟩ : BufTy).Contents (Elt F)),
   StableHlo.binary main_v16 main_v17 main_v18 (cmpi .slt : (⟨S8192, .i32⟩ : BufTy).Contents (Elt F) → (⟨S8192, .i32⟩ : BufTy).Contents (Elt F) → (⟨S8192, .i1⟩ : BufTy).Contents (Elt F)),
   StableHlo.nullary main_c_3 (constantI S_ 32 8192#32),
   StableHlo.unary main_c_3 main_v19 (broadcastInDim S8192 ![] bcast_S_S8192 : (⟨S_, .i32⟩ : BufTy).Contents (Elt F) → (⟨S8192, .i32⟩ : BufTy).Contents (Elt F)),
   StableHlo.binary main_v16 main_v19 main_v20 (addi : (⟨S8192, .i32⟩ : BufTy).Contents (Elt F) → (⟨S8192, .i32⟩ : BufTy).Contents (Elt F) → (⟨S8192, .i32⟩ : BufTy).Contents (Elt F)),
   StableHlo.ternary main_v18 main_v20 main_v16 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v21 main_v22 (broadcastInDim S8192x1 ![0] bcast_S8192_S8192x1_0 : (⟨S8192, .i32⟩ : BufTy).Contents (Elt F) → (⟨S8192x1, .i32⟩ : BufTy).Contents (Elt F)),
   StableHlo.binary main_v1 main_v22 main_v23 ((fun x i => Host.gather gather_S8192x2_S8192x1_S8192x2_1_0_n_n_0_1_12 x i) : (⟨S8192x2, .f32⟩ : BufTy).Contents (Elt F) → (⟨S8192x1, .i32⟩ : BufTy).Contents (Elt F) → (⟨S8192x2, .f32⟩ : BufTy).Contents (Elt F)),
   StableHlo.binary main_v0 main_v23 main_v24 (subf : (⟨S8192x2, .f32⟩ : BufTy).Contents (Elt F) → (⟨S8192x2, .f32⟩ : BufTy).Contents (Elt F) → (⟨S8192x2, .f32⟩ : BufTy).Contents (Elt F)),
   StableHlo.unary main_v24 main_v25 (Host.absf : (⟨S8192x2, .f32⟩ : BufTy).Contents (Elt F) → (⟨S8192x2, .f32⟩ : BufTy).Contents (Elt F)),
   StableHlo.unary main_arg2 main_v26 (broadcastInDim S1x2 ![1] bcast_S2_S1x2_1 : (⟨S2, .f32⟩ : BufTy).Contents (Elt F) → (⟨S1x2, .f32⟩ : BufTy).Contents (Elt F)),
   StableHlo.unary main_v26 main_v27 (broadcastInDim S8192x2 ![0, 1] bcast_S1x2_S8192x2_0_1 : (⟨S1x2, .f32⟩ : BufTy).Contents (Elt F) → (⟨S8192x2, .f32⟩ : BufTy).Contents (Elt F)),
   StableHlo.binary main_v25 main_v27 main_v28 (mulf : (⟨S8192x2, .f32⟩ : BufTy).Contents (Elt F) → (⟨S8192x2, .f32⟩ : BufTy).Contents (Elt F) → (⟨S8192x2, .f32⟩ : BufTy).Contents (Elt F)),
   StableHlo.nullary main_cst_4 (constant S_ .f32 0x00000000#32),
   StableHlo.binary main_v28 main_cst_4 main_v29 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F))]
def ops6 : List (HloOp τ sig (Elt F)) :=
  [StableHlo.binary main_v1 main_v1 main_v30 (mulf : (⟨S8192x2, .f32⟩ : BufTy).Contents (Elt F) → (⟨S8192x2, .f32⟩ : BufTy).Contents (Elt F) → (⟨S8192x2, .f32⟩ : BufTy).Contents (Elt F)),
   StableHlo.nullary main_cst_5 (constant S_ .f32 0x00000000#32),
   StableHlo.binary main_v30 main_cst_5 main_v31 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
   StableHlo.binary main_v0 main_v0 main_v32 (mulf : (⟨S8192x2, .f32⟩ : BufTy).Contents (Elt F) → (⟨S8192x2, .f32⟩ : BufTy).Contents (Elt F) → (⟨S8192x2, .f32⟩ : BufTy).Contents (Elt F)),
   StableHlo.nullary main_cst_6 (constant S_ .f32 0x00000000#32),
   StableHlo.binary main_v32 main_cst_6 main_v33 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
   StableHlo.unary main_v31 main_v34 (broadcastInDim S8192x1 ![0] bcast_S8192_S8192x1_0 : (⟨S8192, .f32⟩ : BufTy).Contents (Elt F) → (⟨S8192x1, .f32⟩ : BufTy).Contents (Elt F)),
   StableHlo.unary main_v33 main_v35 (broadcastInDim S1x8192 ![1] bcast_S8192_S1x8192_1 : (⟨S8192, .f32⟩ : BufTy).Contents (Elt F) → (⟨S1x8192, .f32⟩ : BufTy).Contents (Elt F)),
   StableHlo.unary main_v34 main_v36 (broadcastInDim S8192x8192 ![0, 1] bcast_S8192x1_S8192x8192_0_1 : (⟨S8192x1, .f32⟩ : BufTy).Contents (Elt F) → (⟨S8192x8192, .f32⟩ : BufTy).Contents (Elt F)),
   StableHlo.unary main_v35 main_v37 (broadcastInDim S8192x8192 ![0, 1] bcast_S1x8192_S8192x8192_0_1 : (⟨S1x8192, .f32⟩ : BufTy).Contents (Elt F) → (⟨S8192x8192, .f32⟩ : BufTy).Contents (Elt F)),
   StableHlo.binary main_v36 main_v37 main_v38 (addf : (⟨S8192x8192, .f32⟩ : BufTy).Contents (Elt F) → (⟨S8192x8192, .f32⟩ : BufTy).Contents (Elt F) → (⟨S8192x8192, .f32⟩ : BufTy).Contents (Elt F)),
   StableHlo.unary main_v0 main_v39 ((transpose S2x8192 [1, 0] · transposes_S8192x2_S2x8192_1_0) : (⟨S8192x2, .f32⟩ : BufTy).Contents (Elt F) → (⟨S2x8192, .f32⟩ : BufTy).Contents (Elt F)),
   StableHlo.binary main_v1 main_v39 main_v40 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
   StableHlo.nullary main_cst_7 (constant S_ .f32 0x40000000#32),
   StableHlo.unary main_cst_7 main_v41 (broadcastInDim S8192x8192 ![] bcast_S_S8192x8192 : (⟨S_, .f32⟩ : BufTy).Contents (Elt F) → (⟨S8192x8192, .f32⟩ : BufTy).Contents (Elt F)),
   StableHlo.binary main_v41 main_v40 main_v42 (mulf : (⟨S8192x8192, .f32⟩ : BufTy).Contents (Elt F) → (⟨S8192x8192, .f32⟩ : BufTy).Contents (Elt F) → (⟨S8192x8192, .f32⟩ : BufTy).Contents (Elt F)),
   StableHlo.binary main_v38 main_v42 main_v43 (subf : (⟨S8192x8192, .f32⟩ : BufTy).Contents (Elt F) → (⟨S8192x8192, .f32⟩ : BufTy).Contents (Elt F) → (⟨S8192x8192, .f32⟩ : BufTy).Contents (Elt F))]
def ops8 : List (HloOp τ sig (Elt F)) :=
  [StableHlo.nullary main_c_8 (constantI S_ 32 0#32),
   StableHlo.unary main_c_8 main_v45 (broadcastInDim S8192 ![] bcast_S_S8192 : (⟨S_, .i32⟩ : BufTy).Contents (Elt F) → (⟨S8192, .i32⟩ : BufTy).Contents (Elt F)),
   StableHlo.binary main_v44 main_v45 main_v46 (cmpi .slt : (⟨S8192, .i32⟩ : BufTy).Contents (Elt F) → (⟨S8192, .i32⟩ : BufTy).Contents (Elt F) → (⟨S8192, .i1⟩ : BufTy).Contents (Elt F)),
   StableHlo.nullary main_c_9 (constantI S_ 32 8192#32),
   StableHlo.unary main_c_9 main_v47 (broadcastInDim S8192 ![] bcast_S_S8192 : (⟨S_, .i32⟩ : BufTy).Contents (Elt F) → (⟨S8192, .i32⟩ : BufTy).Contents (Elt F)),
   StableHlo.binary main_v44 main_v47 main_v48 (addi : (⟨S8192, .i32⟩ : BufTy).Contents (Elt F) → (⟨S8192, .i32⟩ : BufTy).Contents (Elt F) → (⟨S8192, .i32⟩ : BufTy).Contents (Elt F)),
   StableHlo.ternary main_v46 main_v48 main_v44 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v49 main_v50 (broadcastInDim S8192x1 ![0] bcast_S8192_S8192x1_0 : (⟨S8192, .i32⟩ : BufTy).Contents (Elt F) → (⟨S8192x1, .i32⟩ : BufTy).Contents (Elt F)),
   StableHlo.binary main_v0 main_v50 main_v51 ((fun x i => Host.gather gather_S8192x2_S8192x1_S8192x2_1_0_n_n_0_1_12 x i) : (⟨S8192x2, .f32⟩ : BufTy).Contents (Elt F) → (⟨S8192x1, .i32⟩ : BufTy).Contents (Elt F) → (⟨S8192x2, .f32⟩ : BufTy).Contents (Elt F)),
   StableHlo.binary main_v51 main_v1 main_v52 (subf : (⟨S8192x2, .f32⟩ : BufTy).Contents (Elt F) → (⟨S8192x2, .f32⟩ : BufTy).Contents (Elt F) → (⟨S8192x2, .f32⟩ : BufTy).Contents (Elt F)),
   StableHlo.unary main_v52 main_v53 (Host.absf : (⟨S8192x2, .f32⟩ : BufTy).Contents (Elt F) → (⟨S8192x2, .f32⟩ : BufTy).Contents (Elt F)),
   StableHlo.nullary main_cst_10 (constant S_ .f32 0x00000000#32),
   StableHlo.binary main_v53 main_cst_10 main_v54 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
   StableHlo.binary main_v54 main_v29 main_v55 (addf : (⟨S_, .f32⟩ : BufTy).Contents (Elt F) → (⟨S_, .f32⟩ : BufTy).Contents (Elt F) → (⟨S_, .f32⟩ : BufTy).Contents (Elt F))]
def ops1 : List (HloOp τ sig (Elt F)) := takeOps (.of main_arg0) (.of main_c) main_call0
def ops2 : List (HloOp τ sig (Elt F)) := takeOps (.of main_arg1) (.of main_c) main_call1
def ops4 : List (HloOp τ sig (Elt F)) := argOps (.of main_v15) main_call2
def ops7 : List (HloOp τ sig (Elt F)) := argOps (.of main_v43) main_call3
def ops : List (HloOp τ sig (Elt F)) := ops0 ++ (ops1 ++ (ops2 ++ (ops3 ++ (ops4 ++ (ops5 ++ (ops6 ++ (ops7 ++ ops8)))))))

set_option maxHeartbeats 1000000 in
theorem isSeq (d : Dev nD) : StableHlo.IsSeq (main (F := Ideal) d) ops := by
  have h : ∃ o, StableHlo.IsSeq (main (F := Ideal) d) o ∧ o = ops := by
    refine Exists.intro _ (And.intro (by hlo_seq) ?_)
    rfl
  obtain ⟨o, h, rfl⟩ := h
  exact h

section

variable (W : Valuation τ sig (Elt Ideal))

theorem cols_val : (after ops0 W (Proc.devRef .tc main_c) : Words S2) = cols := by
  unfold ops0; after_results; try rfl
theorem ops0_arg0 : after ops0 W (Proc.devRef .tc main_arg0) = W (Proc.devRef .tc main_arg0) := by unfold ops0; after_results; try rfl
theorem ops0_arg1 : after ops0 W (Proc.devRef .tc main_arg1) = W (Proc.devRef .tc main_arg1) := by unfold ops0; after_results; try rfl

set_option maxHeartbeats 1000000 in
theorem take0_val (h : (W (Proc.devRef .tc main_c) : Words S2) = cols) : (after ops1 W (Proc.devRef .tc main_v0) : Vals S8192x2) = take (W (Proc.devRef .tc main_arg0)) := by
  unfold ops1 takeOps take colOk colIdx
  rw [← h]
  after_results
  try rfl
theorem ops1_c : after ops1 W (Proc.devRef .tc main_c) = W (Proc.devRef .tc main_c) := by unfold ops1 takeOps; after_results; try rfl
theorem ops1_arg1 : after ops1 W (Proc.devRef .tc main_arg1) = W (Proc.devRef .tc main_arg1) := by unfold ops1 takeOps; after_results; try rfl
set_option maxHeartbeats 1000000 in
theorem take1_val (h : (W (Proc.devRef .tc main_c) : Words S2) = cols) : (after ops2 W (Proc.devRef .tc main_v1) : Vals S8192x2) = take (W (Proc.devRef .tc main_arg1)) := by
  unfold ops2 takeOps take colOk colIdx
  rw [← h]
  after_results
  try rfl
theorem ops2_v0 : after ops2 W (Proc.devRef .tc main_v0) = W (Proc.devRef .tc main_v0) := by unfold ops2 takeOps; after_results; try rfl

theorem dist0_val : (after ops3 W (Proc.devRef .tc main_v15) : Vals S8192x8192) = dist (W (Proc.devRef .tc main_v0)) (W (Proc.devRef .tc main_v1)) := by
  unfold ops3 dist norms; after_results; try rfl
theorem arg0_val : (after ops4 W (Proc.devRef .tc main_v16) : Words S8192) = argMin (W (Proc.devRef .tc main_v15)) := by
  unfold ops4 argOps argMin; after_results; try rfl
theorem lossP_val : (after ops5 W (Proc.devRef .tc main_v29) : Vals S_)
    = Host.reduceAdd (mulf (Host.absf (subf (W (Proc.devRef .tc main_v0) : Vals S8192x2) (pick (W (Proc.devRef .tc main_v1)) (W (Proc.devRef .tc main_v16)))))
      (broadcastInDim S8192x2 ![0, 1] bcast_S1x2_S8192x2_0_1 (broadcastInDim S1x2 ![1] bcast_S2_S1x2_1 (W (Proc.devRef .tc main_arg2) : Vals S2))))
    (constant (F := Ideal) S_ .f32 0x00000000#32) reducesTo_S8192x2_S_d0_1 h_S_ := by
  unfold ops5 pick; after_results; try rfl
theorem dist1_val : (after ops6 W (Proc.devRef .tc main_v43) : Vals S8192x8192) = dist (W (Proc.devRef .tc main_v1)) (W (Proc.devRef .tc main_v0)) := by
  unfold ops6 dist norms; after_results; try rfl
theorem arg1_val : (after ops7 W (Proc.devRef .tc main_v44) : Words S8192) = argMin (W (Proc.devRef .tc main_v43)) := by
  unfold ops7 argOps argMin; after_results; try rfl
theorem loss_val : (after ops8 W (Proc.devRef .tc main_v55) : Vals S_)
    = addf (Host.reduceAdd (Host.absf (subf (pick (W (Proc.devRef .tc main_v0)) (W (Proc.devRef .tc main_v44))) (W (Proc.devRef .tc main_v1) : Vals S8192x2)))
        (constant (F := Ideal) S_ .f32 0x00000000#32) reducesTo_S8192x2_S_d0_1 h_S_) (W (Proc.devRef .tc main_v29) : Vals S_) := by
  unfold ops8 pick; after_results; try rfl
theorem ops0_arg2 : after ops0 W (Proc.devRef .tc main_arg2) = W (Proc.devRef .tc main_arg2) := by unfold ops0; after_results; try rfl
theorem ops1_arg2 : after ops1 W (Proc.devRef .tc main_arg2) = W (Proc.devRef .tc main_arg2) := by unfold ops1 takeOps; after_results; try rfl
theorem ops1_arg0 : after ops1 W (Proc.devRef .tc main_arg0) = W (Proc.devRef .tc main_arg0) := by unfold ops1 takeOps; after_results; try rfl
theorem ops2_arg2 : after ops2 W (Proc.devRef .tc main_arg2) = W (Proc.devRef .tc main_arg2) := by unfold ops2 takeOps; after_results; try rfl
theorem ops2_arg0 : after ops2 W (Proc.devRef .tc main_arg0) = W (Proc.devRef .tc main_arg0) := by unfold ops2 takeOps; after_results; try rfl
theorem ops2_arg1 : after ops2 W (Proc.devRef .tc main_arg1) = W (Proc.devRef .tc main_arg1) := by unfold ops2 takeOps; after_results; try rfl
theorem ops3_arg2 : after ops3 W (Proc.devRef .tc main_arg2) = W (Proc.devRef .tc main_arg2) := by unfold ops3; after_results; try rfl
theorem ops3_v0 : after ops3 W (Proc.devRef .tc main_v0) = W (Proc.devRef .tc main_v0) := by unfold ops3; after_results; try rfl
theorem ops3_v1 : after ops3 W (Proc.devRef .tc main_v1) = W (Proc.devRef .tc main_v1) := by unfold ops3; after_results; try rfl
theorem ops3_arg0 : after ops3 W (Proc.devRef .tc main_arg0) = W (Proc.devRef .tc main_arg0) := by unfold ops3; after_results; try rfl
theorem ops3_arg1 : after ops3 W (Proc.devRef .tc main_arg1) = W (Proc.devRef .tc main_arg1) := by unfold ops3; after_results; try rfl
theorem ops4_arg2 : after ops4 W (Proc.devRef .tc main_arg2) = W (Proc.devRef .tc main_arg2) := by unfold ops4 argOps; after_results; try rfl
theorem ops4_v0 : after ops4 W (Proc.devRef .tc main_v0) = W (Proc.devRef .tc main_v0) := by unfold ops4 argOps; after_results; try rfl
theorem ops4_v1 : after ops4 W (Proc.devRef .tc main_v1) = W (Proc.devRef .tc main_v1) := by unfold ops4 argOps; after_results; try rfl
theorem ops4_arg0 : after ops4 W (Proc.devRef .tc main_arg0) = W (Proc.devRef .tc main_arg0) := by unfold ops4 argOps; after_results; try rfl
theorem ops4_arg1 : after ops4 W (Proc.devRef .tc main_arg1) = W (Proc.devRef .tc main_arg1) := by unfold ops4 argOps; after_results; try rfl
theorem ops5_v0 : after ops5 W (Proc.devRef .tc main_v0) = W (Proc.devRef .tc main_v0) := by unfold ops5; after_results; try rfl
theorem ops5_v1 : after ops5 W (Proc.devRef .tc main_v1) = W (Proc.devRef .tc main_v1) := by unfold ops5; after_results; try rfl
theorem ops5_arg0 : after ops5 W (Proc.devRef .tc main_arg0) = W (Proc.devRef .tc main_arg0) := by unfold ops5; after_results; try rfl
theorem ops5_arg1 : after ops5 W (Proc.devRef .tc main_arg1) = W (Proc.devRef .tc main_arg1) := by unfold ops5; after_results; try rfl
theorem ops5_arg2 : after ops5 W (Proc.devRef .tc main_arg2) = W (Proc.devRef .tc main_arg2) := by unfold ops5; after_results; try rfl
theorem ops6_v0 : after ops6 W (Proc.devRef .tc main_v0) = W (Proc.devRef .tc main_v0) := by unfold ops6; after_results; try rfl
theorem ops6_v1 : after ops6 W (Proc.devRef .tc main_v1) = W (Proc.devRef .tc main_v1) := by unfold ops6; after_results; try rfl
theorem ops6_v29 : after ops6 W (Proc.devRef .tc main_v29) = W (Proc.devRef .tc main_v29) := by unfold ops6; after_results; try rfl
theorem ops6_arg0 : after ops6 W (Proc.devRef .tc main_arg0) = W (Proc.devRef .tc main_arg0) := by unfold ops6; after_results; try rfl
theorem ops6_arg1 : after ops6 W (Proc.devRef .tc main_arg1) = W (Proc.devRef .tc main_arg1) := by unfold ops6; after_results; try rfl
theorem ops6_arg2 : after ops6 W (Proc.devRef .tc main_arg2) = W (Proc.devRef .tc main_arg2) := by unfold ops6; after_results; try rfl
theorem ops7_v0 : after ops7 W (Proc.devRef .tc main_v0) = W (Proc.devRef .tc main_v0) := by unfold ops7 argOps; after_results; try rfl
theorem ops7_v1 : after ops7 W (Proc.devRef .tc main_v1) = W (Proc.devRef .tc main_v1) := by unfold ops7 argOps; after_results; try rfl
theorem ops7_v29 : after ops7 W (Proc.devRef .tc main_v29) = W (Proc.devRef .tc main_v29) := by unfold ops7 argOps; after_results; try rfl
theorem ops7_arg0 : after ops7 W (Proc.devRef .tc main_arg0) = W (Proc.devRef .tc main_arg0) := by unfold ops7 argOps; after_results; try rfl
theorem ops7_arg1 : after ops7 W (Proc.devRef .tc main_arg1) = W (Proc.devRef .tc main_arg1) := by unfold ops7 argOps; after_results; try rfl
theorem ops7_arg2 : after ops7 W (Proc.devRef .tc main_arg2) = W (Proc.devRef .tc main_arg2) := by unfold ops7 argOps; after_results; try rfl
theorem ops8_arg0 : after ops8 W (Proc.devRef .tc main_arg0) = W (Proc.devRef .tc main_arg0) := by unfold ops8; after_results; try rfl
theorem ops8_arg1 : after ops8 W (Proc.devRef .tc main_arg1) = W (Proc.devRef .tc main_arg1) := by unfold ops8; after_results; try rfl
theorem ops8_arg2 : after ops8 W (Proc.devRef .tc main_arg2) = W (Proc.devRef .tc main_arg2) := by unfold ops8; after_results; try rfl

/-- What the whole line leaves. -/
theorem ops_arg0 : after ops W (Proc.devRef .tc main_arg0) = W (Proc.devRef .tc main_arg0) := by
  unfold ops
  simp only [after_append]
  rw [ops8_arg0, ops7_arg0, ops6_arg0, ops5_arg0, ops4_arg0, ops3_arg0, ops2_arg0, ops1_arg0, ops0_arg0]
theorem ops_arg1 : after ops W (Proc.devRef .tc main_arg1) = W (Proc.devRef .tc main_arg1) := by
  unfold ops
  simp only [after_append]
  rw [ops8_arg1, ops7_arg1, ops6_arg1, ops5_arg1, ops4_arg1, ops3_arg1, ops2_arg1, ops1_arg1, ops0_arg1]
theorem ops_arg2 : after ops W (Proc.devRef .tc main_arg2) = W (Proc.devRef .tc main_arg2) := by
  unfold ops
  simp only [after_append]
  rw [ops8_arg2, ops7_arg2, ops6_arg2, ops5_arg2, ops4_arg2, ops3_arg2, ops2_arg2, ops1_arg2, ops0_arg2]
theorem ops_val : (after ops W (Proc.devRef .tc main_v55) : Vals S_) = loss (W (Proc.devRef .tc main_arg0)) (W (Proc.devRef .tc main_arg1)) (W (Proc.devRef .tc main_arg2)) := by
  unfold ops
  simp only [after_append]
  rw [loss_val, arg1_val, ops7_v0, ops7_v1, ops7_v29, dist1_val, ops6_v0, ops6_v1, ops6_v29, lossP_val, ops5_v0, ops5_v1,
    arg0_val, ops4_v0, ops4_v1, ops4_arg2, dist0_val, ops3_v0, ops3_v1, ops3_arg2, take1_val _ ((ops1_c _).trans (cols_val _)), ops2_v0, ops2_arg2,
    take0_val _ (cols_val _), ops1_arg1, ops1_arg2, ops0_arg0, ops0_arg1, ops0_arg2]
  rfl

end

/-- From any memory the reference runs; on every device its arguments end as they were, its result is the loss, and no
    semaphore counter is left standing. -/
theorem reference_run (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => (∀ c : Dev nD,
      r.2.mem ((c.tc : Thread nD τ).loc main_v55) = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (StableHlo.run_hlo _ _ isSeq (by decide) (by decide)
      (by unfold ops ops0 ops1 ops2 ops3 ops4 ops5 ops6 ops7 ops8 takeOps argOps; simp)
      (by unfold ops ops0 ops1 ops2 ops3 ops4 ops5 ops6 ops7 ops8 takeOps argOps; intro _ h; (repeat (cases h with | head => rfl | tail _ h => ?_)); exact nomatch h) m g)
    fun r h => ⟨fun c => ⟨(h c main_v55).trans (ops_val _), (h c main_arg0).trans (ops_arg0 _), (h c main_arg1).trans (ops_arg1 _),
      (h c main_arg2).trans (ops_arg2 _)⟩, sem_eq_zero_of_no_sems rfl _⟩

end Cert.Proof.Chamfer.Ref

end
-- ==== Proof.Finite.lean ====
/-
  What the precondition says: the first two columns of both point arrays hold finite values.
-/
module

public import proofs.«01_k».proof.Pre_finite
public import proofs.«01_k».proof.Proof.Nn
public import Idealize.ShloMosaic.Lib.Pointwise
public import Idealize.ShloMosaic.Lib.ReduceAll

@[expose] public section

noncomputable section

namespace Cert.Proof.Chamfer

open Cert.Pre_finite
open Idealize.ShloMosaic

set_option maxRecDepth 16384

/-- The precondition's own side conditions. -/
theorem preFacts : Cert.Pre_finite.Facts where
  slices_S8192x4_S8192x2_0_0 := by decide
  bcast_S_S8192x2 := by decide
  reducesTo_S8192x2_S_d0_1 := by decide
  h_S_ := by decide

attribute [local instance] preFacts

theorem real_of_abs_lt (a : EReal) (h : Ideal.cmp .olt (max a (-a)) ⊤ = 1#1) : ∃ r : ℝ, a = r := by
  have hl : max a (-a) < ⊤ := by
    by_contra hn
    simp [Ideal.cmp, hn] at h
  refine ⟨a.toReal, (EReal.coe_toReal ?_ ?_).symm⟩
  · rintro rfl
    simp at hl
  · rintro rfl
    simp at hl

theorem finite_one (x : FVec Ideal S8192x4 .f32)
    (h : Host.reduce IntOp.andi (cmpf .olt (Host.absf (extractStridedSlice S8192x2 ![0, 0] x Facts.slices_S8192x4_S8192x2_0_0))
      (broadcastInDim S8192x2 ![] Facts.bcast_S_S8192x2 (constant (F := Ideal) S_ .f32 0x7F800000#32))) (constantI S_ 1 1#1)
      Facts.reducesTo_S8192x2_S_d0_1 Facts.h_S_ ix0 = 1#1) (n : Fin 8192) (c : Fin 2) :
    ∃ r : ℝ, (x (ix2 n ⟨c.val, by omega⟩) : EReal) = r := by
  haveI : Subsingleton S_.Idx := ⟨fun a b => funext fun i => i.elim0⟩
  have e := Host.reduce_andi_all _ _ _ _ _ h (ix2 n c)
  refine real_of_abs_lt _ ?_
  rw [← top_word]
  refine Eq.trans ?_ e
  symm
  pointwise []
  try rfl

theorem finite_args (x y : FVec Ideal S8192x4 .f32) (s : FVec Ideal S2 .f32) (h : fn (F := Ideal) x y s = fun _ => 1#1) (n : Fin 8192) (c : Fin 2) :
    (∃ r : ℝ, (x (ix2 n ⟨c.val, by omega⟩) : EReal) = r) ∧ ∃ r : ℝ, (y (ix2 n ⟨c.val, by omega⟩) : EReal) = r := by
  have h0 := congrFun h ix0
  unfold fn at h0
  have hh := IntOp.andi_eq_one.mp h0
  exact ⟨finite_one x hh.1 n c, finite_one y hh.2 n c⟩

end Cert.Proof.Chamfer

end
-- ==== Proof.Sums.lean ====
/-
  The kernel's partial sums added up over the extended reals.
-/
module

public import proofs.«01_k».proof.Proof.HostVal
public import Idealize.ShloMosaic.Lib.Pointwise

@[expose] public section

noncomputable section

namespace Cert.Proof.Chamfer

open Cert.KernelIdeal Cert.KernelIdeal.Gen
open Idealize.ShloMosaic
open Idealize.ShloMosaic.StableHlo (after)

set_option maxRecDepth 16384

/-- Query `m`'s term: the absolute difference of its coordinate from its neighbour's. -/
def term (q t : S8192.Idx → EReal) (ix : S8192.Idx → BitVec 32) (m : ℕ) : EReal :=
  FloatOps.absf (F := Ideal) (φ := .f32) (q (at8192 m) - t (at8192 (BitVec.toNat (ix (at8192 m)))))

theorem lanes_at (q t : S8192.Idx → EReal) (ix : S8192.Idx → BitVec 32) (n : ℕ) (l : S16.Idx) :
    (lanes (F := Ideal) q t ix n l : EReal) = ∑ j : Fin 16, term q t ix (n + 16 * j.val + (l 0).val) := by
  have e : (lanes (F := Ideal) q t ix n l : EReal) = [0, 128].foldl (fun acc c => [0, 16, 32, 48, 64, 80, 96, 112].foldl (fun acc o =>
      acc + term q t ix (n + (c + (o + (l 0).val)))) acc) (Ideal.ofBits .f32 0x00000000#32) := rfl
  rw [e, Ideal.ofBits_zero_f32, ← Finset.sum_range (fun j => term q t ix (n + 16 * j + (l 0).val))]
  have a : ∀ c o, n + (c + (o + (l 0).val)) = n + (c + o) + (l 0).val := fun c o => by omega
  simp only [List.foldl, Finset.sum_range_succ, Finset.sum_range_zero, a]

/-- The sum over an array of 32 by 4 by 16 of what lies in one of the four middle places. -/
theorem red_at (x : S32x4x16.Idx → EReal) (init : EReal) (k : Fin 4) :
    Ideal.hostReduceAdd reducesTo_S32x4x16_S4_d0_2 x init (ix1 k) = init + ∑ w : Fin 32, ∑ l : Fin 16, x (ix3 w k l) := by
  unfold Ideal.hostReduceAdd
  rw [← Finset.sum_product']
  have hd : ∀ (w : Fin 32) (k' : Fin 4) (l : Fin 16), reducesTo_S32x4x16_S4_d0_2.drop (ix3 w k' l) = ix1 k' := by
    intro w k' l
    funext a
    match a with
    | ⟨0, _⟩ => rfl
  refine congrArg (init + ·) (Finset.sum_bij' (fun z _ => ((z 0 : Fin 32), (z 2 : Fin 16))) (fun p _ => ix3 p.1 k p.2) ?_ ?_ ?_ ?_ ?_)
  · exact fun _ _ => Finset.mem_product.mpr ⟨Finset.mem_univ _, Finset.mem_univ _⟩
  · exact fun p _ => Finset.mem_filter.mpr ⟨Finset.mem_univ _, hd _ _ _⟩
  · intro z hz
    obtain ⟨w, k', l, rfl⟩ : ∃ (w : Fin 32) (k' : Fin 4) (l : Fin 16), z = ix3 w k' l := ⟨z 0, z 1, z 2, eq_ix3 z⟩
    have h := (Finset.mem_filter.mp hz).2
    rw [hd] at h
    obtain rfl : k' = k := congrFun h 0
    rfl
  · exact fun _ _ => rfl
  · intro z hz
    obtain ⟨w, k', l, rfl⟩ : ∃ (w : Fin 32) (k' : Fin 4) (l : Fin 16), z = ix3 w k' l := ⟨z 0, z 1, z 2, eq_ix3 z⟩
    have h := (Finset.mem_filter.mp hz).2
    rw [hd] at h
    obtain rfl : k' = k := congrFun h 0
    rfl

/-- The tiles' lanes are the queries. -/
theorem sum_tiles (g : ℕ → EReal) :
    (∑ w : Fin 32, ∑ l : Fin 16, ∑ j : Fin 16, g (256 * w.val + 16 * j.val + l.val)) = ∑ n : Fin 8192, g n.val := by
  have e : ∀ w : Fin 32, (∑ l : Fin 16, ∑ j : Fin 16, g (256 * w.val + 16 * j.val + l.val))
      = ∑ p : Fin 16 × Fin 16, g (256 * w.val + 16 * p.2.val + p.1.val) := fun w => by
    rw [← Finset.univ_product_univ, Finset.sum_product]
  simp only [e]
  rw [← Finset.sum_product' (f := fun (w : Fin 32) (p : Fin 16 × Fin 16) => g (256 * w.val + 16 * p.2.val + p.1.val))]
  refine Finset.sum_bij' (fun z _ => (⟨256 * z.1.val + 16 * z.2.2.val + z.2.1.val, by omega⟩ : Fin 8192))
    (fun n _ => ((⟨n.val / 256, by omega⟩ : Fin 32), ((⟨n.val % 16, by omega⟩ : Fin 16), (⟨n.val % 256 / 16, by omega⟩ : Fin 16)))) ?_ ?_ ?_ ?_ ?_
  · exact fun _ _ => Finset.mem_univ _
  · exact fun _ _ => Finset.mem_product.mpr ⟨Finset.mem_univ _, Finset.mem_univ _⟩
  · rintro ⟨w, l, j⟩ _
    refine Prod.ext (Fin.ext ?_) (Prod.ext (Fin.ext ?_) (Fin.ext ?_)) <;> dsimp only <;> omega
  · intro n _
    refine Fin.ext ?_
    dsimp only
    omega
  · exact fun _ _ => rfl

section

variable (W : Valuation τ sig (Elt Ideal))

/-- The four places' terms, in the order the tiles keep them. -/
def terms (A : Ins Ideal) (k : Fin 4) (m : ℕ) : EReal := match k with
  | 0 => term A.px A.tx A.ig m
  | 1 => term A.py A.ty A.ig m
  | 2 => term A.tx A.px A.ip m
  | 3 => term A.ty A.py A.ip m

theorem rowLanes_at (A : Ins Ideal) (n : ℕ) (k : Fin 4) (l : S16.Idx) :
    (rowLanes A n k l : EReal) = ∑ j : Fin 16, terms A k (n + 16 * j.val + (l 0).val) := by
  match k with
  | 0 => exact lanes_at _ _ _ _ _
  | 1 => exact lanes_at _ _ _ _ _
  | 2 => exact lanes_at _ _ _ _ _
  | 3 => exact lanes_at _ _ _ _ _

theorem outSpec_at (A : Ins Ideal) (w : Fin 32) (k : Fin 4) (l : Fin 16) :
    (outSpec A (ix2 w ⟨16 * k.val + l.val, by omega⟩) : EReal) = ∑ j : Fin 16, terms A k (256 * w.val + 16 * j.val + l.val) := by
  have hk : (16 * k.val + l.val) / 16 = k.val := by omega
  have hl : (16 * k.val + l.val) % 16 = l.val := by omega
  unfold outSpec
  refine (rowLanes_at A _ _ _).trans ?_
  refine Finset.sum_congr rfl fun j _ => ?_
  exact congrArg₂ (terms A) (Fin.ext hk) (congrArg (256 * w.val + 16 * j.val + ·) hl)

set_option maxHeartbeats 1000000

theorem v24_at (k : Fin 4) : (val5 W (Proc.devRef .tc main_v24) : S4.Idx → EReal) (ix1 k) = ∑ n : Fin 8192, terms (insOf (val3 W)) k n.val := by
  have e : (val5 W (Proc.devRef .tc main_v24) : S4.Idx → EReal)
      = Host.reduceAdd (F := Ideal) (φ := .f32) (shapeCast S32x4x16 (outSpec (insOf (val3 W)) : S32x64.Idx → EReal) shapeCasts_S32x64_S32x4x16) (constant (F := Ideal) S_ .f32 0x00000000#32) reducesTo_S32x4x16_S4_d0_2 h_S_ := by
    unfold val5 ops3; after_results; try rfl
  rw [e, Host.reduceAdd_apply]
  refine (red_at _ _ k).trans ?_
  rw [← sum_tiles]
  have z : (constant (F := Ideal) S_ .f32 0x00000000#32 (Shape.Idx.first h_S_) : EReal) = 0 := Ideal.ofBits_zero_f32
  rw [z, zero_add]
  refine Finset.sum_congr rfl fun w _ => Finset.sum_congr rfl fun l _ => ?_
  refine Eq.trans ?_ (outSpec_at (insOf (val3 W)) w k l)
  pointwise []
  exact congrArg (outSpec (insOf (val3 W))) (congrArg (ix2 w) (Fin.ext (by dsimp only; omega)))

/-- The result. -/
theorem v41_at : (val5 W (Proc.devRef .tc main_v41) : S_.Idx → EReal) ix0
    = ((∑ n : Fin 8192, terms (insOf (val3 W)) 0 n.val) * (W (Proc.devRef .tc main_arg2) : S2.Idx → EReal) (ix1 0)
      + (∑ n : Fin 8192, terms (insOf (val3 W)) 1 n.val) * (W (Proc.devRef .tc main_arg2) : S2.Idx → EReal) (ix1 1))
      + (∑ n : Fin 8192, terms (insOf (val3 W)) 2 n.val) + ∑ n : Fin 8192, terms (insOf (val3 W)) 3 n.val := by
  have e : (val5 W (Proc.devRef .tc main_v41) : S_.Idx → EReal)
      = addf (F := Ideal) (φ := .f32) (addf (addf
          (mulf (shapeCast S_ (extractStridedSlice S1 ![0] (val5 W (Proc.devRef .tc main_v24) : S4.Idx → EReal) slices_S4_S1_0) shapeCasts_S1_S_)
            (shapeCast S_ (extractStridedSlice S1 ![0] (W (Proc.devRef .tc main_arg2) : S2.Idx → EReal) slices_S2_S1_0) shapeCasts_S1_S_))
          (mulf (shapeCast S_ (extractStridedSlice S1 ![1] (val5 W (Proc.devRef .tc main_v24) : S4.Idx → EReal) slices_S4_S1_1) shapeCasts_S1_S_)
            (shapeCast S_ (extractStridedSlice S1 ![1] (W (Proc.devRef .tc main_arg2) : S2.Idx → EReal) slices_S2_S1_1) shapeCasts_S1_S_)))
          (shapeCast S_ (extractStridedSlice S1 ![2] (val5 W (Proc.devRef .tc main_v24) : S4.Idx → EReal) slices_S4_S1_2) shapeCasts_S1_S_))
          (shapeCast S_ (extractStridedSlice S1 ![3] (val5 W (Proc.devRef .tc main_v24) : S4.Idx → EReal) slices_S4_S1_3) shapeCasts_S1_S_) := by
    rw [← val5_arg W main_arg2 (Or.inr (Or.inr rfl))]
    unfold val5 ops3; after_results; try rfl
  rw [e]
  pointwise []
  rw [v24_at, v24_at, v24_at, v24_at]

end

end Cert.Proof.Chamfer

end
-- ==== Proof.ArgMin.lean ====
/-
  The reference's arg-min over the extended reals: the index of the first least entry of a row.
-/
module

public import proofs.«01_k».proof.Proof.Ref
public import proofs.«01_k».proof.Proof.Nn
public import Idealize.ShloMosaic.PureOps.Ideal.Laws
public import Idealize.ShloMosaic.PureOps.Reduce

@[expose] public section

noncomputable section

namespace Cert.Proof.Chamfer.Ref

open Cert.ReferenceIdeal Cert.ReferenceIdeal.Facts₀ Cert.ReferenceIdeal.Facts
open Idealize.ShloMosaic

attribute [local instance] Cert.ReferenceIdeal.Gen.facts

/-- One (value, index) pair does not come after another. -/
def Before (a b : EReal × BitVec 32) : Prop := a.1 < b.1 ∨ (a.1 = b.1 ∧ a.2.toInt ≤ b.2.toInt)

theorem Before.refl (a : EReal × BitVec 32) : Before a a := Or.inr ⟨rfl, le_rfl⟩
theorem Before.trans {a b c : EReal × BitVec 32} (h : Before a b) (h' : Before b c) : Before a c := by
  rcases h with h | ⟨h, i⟩
  · rcases h' with h' | ⟨h', _⟩
    · exact Or.inl (h.trans h')
    · exact Or.inl (h' ▸ h)
  · rcases h' with h' | ⟨h', i'⟩
    · exact Or.inl (h ▸ h')
    · exact Or.inr ⟨h.trans h', i.trans i'⟩

/-- The body keeps one of its two pairs, and one that does not come after either. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨v, i⟩ := a
  obtain ⟨w, j⟩ := b
  have e : reducer_argmin_f32_i32 (F := Ideal) (v, i) (w, j)
      = if v < w then (v, i) else if v = w ∧ i.toInt < j.toInt then (v, i) else (w, j) := by
    unfold reducer_argmin_f32_i32
    simp only [Ideal.cmpf_def, Ideal.cmp, IntOp.cmpi, IntOp.ori, IntOp.andi, Scalar.select, BitVec.slt]
    rcases lt_trichotomy v w with h | h | h
    · simp [h, h.ne]
    · subst h
      by_cases hi : i.toInt < j.toInt <;> simp [hi]
    · simp [not_lt.mpr h.le, h.ne', h.ne]
  rw [e]
  split
  · next h => exact ⟨Or.inl rfl, Before.refl _, Or.inl h⟩
  · next h =>
    split
    · next h' => exact ⟨Or.inl rfl, Before.refl _, Or.inr ⟨h'.1, h'.2.le⟩⟩
    · next h' =>
      refine ⟨Or.inr rfl, ?_, Before.refl _⟩
      rcases lt_or_eq_of_le (not_lt.mp h) with hl | he
      · exact Or.inl hl
      · refine Or.inr ⟨he, not_lt.mp fun hlt => h' ⟨he.symm, hlt⟩⟩

theorem foldl_spec (L : List (EReal × BitVec 32)) : ∀ a : EReal × BitVec 32,
    (L.foldl (reducer_argmin_f32_i32 (F := Ideal)) a = a ∨ L.foldl (reducer_argmin_f32_i32 (F := Ideal)) a ∈ L)
      ∧ Before (L.foldl (reducer_argmin_f32_i32 (F := Ideal)) a) a ∧ ∀ p ∈ L, Before (L.foldl (reducer_argmin_f32_i32 (F := Ideal)) a) p := by
  induction L with
  | nil => exact fun a => ⟨Or.inl rfl, Before.refl _, fun _ h => nomatch h⟩
  | cons b L ih =>
    intro a
    obtain ⟨h1, h2, h3⟩ := reducer_spec a b
    obtain ⟨i1, i2, i3⟩ := ih (reducer_argmin_f32_i32 (F := Ideal) a b)
    rw [List.foldl_cons]
    refine ⟨?_, i2.trans h2, fun p hp => ?_⟩
    · rcases i1 with i1 | i1
      · rw [i1]
        rcases h1 with h1 | h1
        · exact Or.inl h1
        · exact Or.inr (List.mem_cons.mpr (Or.inl h1))
      · exact Or.inr (List.mem_cons_of_mem _ i1)
    · rcases List.mem_cons.mp hp with rfl | hp
      · exact i2.trans h3
      · exact i3 p hp

set_option maxRecDepth 16384

theorem drop_at (n k : Fin 8192) : reducesTo_S8192x8192_S8192_d1.drop (ix2 n k) = ix1 n := by
  funext a
  match a with
  | ⟨0, _⟩ => rfl

theorem mem_fiber (d : Vals S8192x8192) (n : Fin 8192) (p : EReal × BitVec 32) :
    p ∈ Host.argReduceFiber d (iotaInDim S8192x8192 32 1) reducesTo_S8192x8192_S8192_d1 (ix1 n)
      ↔ ∃ k : Fin 8192, p = (d (ix2 n k), BitVec.ofNat 32 k.val) := by
  unfold Host.argReduceFiber
  rw [List.mem_map]
  constructor
  · rintro ⟨r, hr, rfl⟩
    have hd := of_decide_eq_true (List.mem_filter.mp hr).2
    generalize S8192x8192.rowMajor.symm r = i at hd
    obtain ⟨a, k, rfl⟩ : ∃ a k : Fin 8192, i = ix2 a k := ⟨i 0, i 1, eq_ix2 i⟩
    rw [drop_at] at hd
    obtain rfl : a = n := congrFun hd 0
    exact ⟨k, rfl⟩
  · rintro ⟨k, rfl⟩
    refine ⟨S8192x8192.rowMajor (ix2 n k), List.mem_filter.mpr ⟨List.mem_finRange _, decide_eq_true ?_⟩, ?_⟩
    · rw [Equiv.symm_apply_apply]; exact drop_at n k
    · rw [Equiv.symm_apply_apply]; rfl

theorem toInt_small (k : Fin 8192) : (BitVec.ofNat 32 k.val).toInt = k.val := by
  have := k.isLt
  rw [BitVec.toInt_eq_toNat_of_lt] <;> rw [BitVec.toNat_ofNat, Nat.mod_eq_of_lt (by omega)]
  omega

theorem argReduce_at {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (j : t.Idx) (v : Ideal .f32) (i : BitVec 32) (hv : ix (Shape.Idx.first hu) = v) (hi : iy (Shape.Idx.first hu) = i) :
    (Host.argReduce (F := Ideal) (φ := .f32) f x y ix iy h hu j).2 = ((Host.argReduceFiber x y h j).foldl f (v, i)).2 := by
  subst hv hi
  rw [Ideal.argReduce_eq_reduce2, Host.reduce2_eq_foldl_fiber]

theorem argMin_fold (d : Vals S8192x8192) (n : Fin 8192) : argMin d (ix1 n)
    = ((Host.argReduceFiber d (iotaInDim S8192x8192 32 1) reducesTo_S8192x8192_S8192_d1 (ix1 n)).foldl
        (reducer_argmin_f32_i32 (F := Ideal)) (Ideal.ofBits .f32 0x7F800000#32, 0#32)).2 := by
  have h : ∀ r, seconds r (ix1 n) = (r (ix1 n)).2 := fun _ => rfl
  rw [argMin, h, argReduce_at (v := Ideal.ofBits .f32 0x7F800000#32) (i := 0#32) (hv := rfl) (hi := rfl)]

theorem least_of (d : Fin 8192 → EReal) (k : Fin 8192) (h : IsFirst d k) (r : EReal × BitVec 32)
    (h1 : r = (⊤, 0#32) ∨ ∃ j : Fin 8192, r = (d j, BitVec.ofNat 32 j.val)) (hk : Before r (d k, BitVec.ofNat 32 k.val)) :
    r.2 = BitVec.ofNat 32 k.val := by
  rcases h1 with rfl | ⟨j, rfl⟩
  · rcases hk with hk | ⟨hk, _⟩
    · exact absurd hk not_top_lt
    · have hk0 : k = 0 := by
        by_contra hne
        have h0 := h.2 0 (Fin.pos_iff_ne_zero.mpr hne)
        rw [← show (⊤ : EReal) = d k from hk] at h0
        exact (not_top_lt h0).elim
      subst hk0
      rfl
  · have hj : j = k := by
      rcases hk with hk | ⟨hk, hi⟩
      · exact absurd hk (not_lt.mpr (h.1 j))
      · have hi' : (BitVec.ofNat 32 j.val).toInt ≤ (BitVec.ofNat 32 k.val).toInt := hi
        rw [toInt_small, toInt_small] at hi'
        rcases lt_or_eq_of_le (show j ≤ k from Fin.le_def.mpr (by exact_mod_cast hi')) with hl | he
        · exact absurd hk (ne_of_gt (h.2 j hl))
        · exact he
    subst hj
    rfl

/-- Each row's index is that of its first least entry. -/
theorem argMin_at (d : Vals S8192x8192) (n k : Fin 8192) (h : IsFirst (fun j => d (ix2 n j)) k) : argMin d (ix1 n) = BitVec.ofNat 32 k.val := by
  rw [argMin_fold]
  obtain ⟨h1, -, h3⟩ := foldl_spec (Host.argReduceFiber d (iotaInDim S8192x8192 32 1) reducesTo_S8192x8192_S8192_d1 (ix1 n))
    (Ideal.ofBits .f32 0x7F800000#32, 0#32)
  refine least_of (fun j => d (ix2 n j)) k h _ ?_ (h3 _ ((mem_fiber d n _).mpr ⟨k, rfl⟩))
  rcases h1 with h1 | h1
  · left
    rw [top_word] at h1
    exact h1
  · right
    exact (mem_fiber d n _).mp h1

end Cert.Proof.Chamfer.Ref

end
-- ==== Proof.RefVal.lean ====
/-
  The reference's operations read at an index over the extended reals.
-/
module

public import proofs.«01_k».proof.Proof.Ref
public import Idealize.ShloMosaic.Lib.Pointwise
public import Idealize.ShloMosaic.Lib.Routing.Ops

@[expose] public section

noncomputable section

namespace Cert.Proof.Chamfer.Ref

open Cert.ReferenceIdeal Cert.ReferenceIdeal.Facts₀ Cert.ReferenceIdeal.Facts
open Idealize.ShloMosaic

attribute [local instance] Cert.ReferenceIdeal.Gen.facts

set_option maxRecDepth 16384

theorem colIdx_at (c : Fin 2) : colIdx (ix2 c 0) = BitVec.ofNat 32 c.val := by
  unfold colIdx
  pointwise [cols]
  revert c
  decide

theorem colOk_at (c : Fin 2) : colOk (ix1 c) = 1#1 := by
  revert c
  decide

/-- The columns taken are the first two. -/
theorem take_at (x : Vals S8192x4) (n : Fin 8192) (c : Fin 2) : take x (ix2 n c) = x (ix2 n ⟨c.val, by omega⟩) := by
  unfold take
  pointwise [colOk_at]
  refine congrArg x (funext fun a => Fin.ext ?_)
  match a with
  | ⟨0, _⟩ =>
    show gather_S8192x4_S2x1_S8192x2_0_1_n_n_1_1_81921.start (ix2 n c) colIdx (0 : Fin 2) + gather_S8192x4_S2x1_S8192x2_0_1_n_n_1_1_81921.batchCoord (ix2 n c) (0 : Fin 2)
      + gather_S8192x4_S2x1_S8192x2_0_1_n_n_1_1_81921.offCoord (ix2 n c) (0 : Fin 2) = n.val
    rw [GatherDims.batchCoord_eq_zero _ _ _ (by decide)]
    have hs : (gather_S8192x4_S2x1_S8192x2_0_1_n_n_1_1_81921.start (ix2 n c) colIdx (0 : Fin 2)) = 0 := by
      unfold GatherDims.start
      exact dif_neg (by decide)
    rw [hs, Nat.add_zero, Nat.zero_add]
    rfl
  | ⟨1, _⟩ =>
    show gather_S8192x4_S2x1_S8192x2_0_1_n_n_1_1_81921.start (ix2 n c) colIdx (1 : Fin 2) + gather_S8192x4_S2x1_S8192x2_0_1_n_n_1_1_81921.batchCoord (ix2 n c) (1 : Fin 2)
      + gather_S8192x4_S2x1_S8192x2_0_1_n_n_1_1_81921.offCoord (ix2 n c) (1 : Fin 2) = c.val
    rw [GatherDims.batchCoord_eq_zero _ _ _ (by decide), GatherDims.offCoord_eq_zero _ _ _ (by decide)]
    unfold GatherDims.start
    rw [dif_pos (show (1 : Fin 2) ∈ gather_S8192x4_S2x1_S8192x2_0_1_n_n_1_1_81921.startIndexMap from List.mem_singleton.mpr rfl)]
    have hsi : gather_S8192x4_S2x1_S8192x2_0_1_n_n_1_1_81921.siIdx (ix2 n c)
        ⟨List.idxOf (1 : Fin 2) gather_S8192x4_S2x1_S8192x2_0_1_n_n_1_1_81921.startIndexMap, List.idxOf_lt_length_iff.2 (List.mem_singleton.mpr rfl)⟩
        = ix2 c 0 := by
      funext b; refine Fin.ext ?_
      match b with
      | ⟨0, _⟩ => rfl
      | ⟨1, _⟩ => rfl
    rw [hsi, colIdx_at]
    clear hsi
    match c with
    | ⟨0, _⟩ => rfl
    | ⟨1, _⟩ => rfl

theorem norms_at (q : Vals S8192x2) (n : Fin 8192) : norms q (ix1 n) = q (ix2 n 0) * q (ix2 n 0) + q (ix2 n 1) * q (ix2 n 1) := by
  unfold norms
  pointwise []
  simp only [Fin.sum_univ_two, zero_add]

/-- The distance of query `n` from key `k`. -/
theorem dist_at (q k : Vals S8192x2) (n j : Fin 8192) : dist q k (ix2 n j)
    = (q (ix2 n 0) * q (ix2 n 0) + q (ix2 n 1) * q (ix2 n 1)) + (k (ix2 j 0) * k (ix2 j 0) + k (ix2 j 1) * k (ix2 j 1))
      - Ideal.ofBits .f32 0x40000000#32 * (q (ix2 n 0) * k (ix2 j 0) + q (ix2 n 1) * k (ix2 j 1)) := by
  unfold dist
  pointwise [norms_at]
  simp only [norms_at, Fin.sum_univ_two]
  try rfl

theorem pickWord (b : Fin 8192) : Scalar.select (IntOp.cmpi .slt (BitVec.ofNat 32 b.val) 0#32) (IntOp.addi (BitVec.ofNat 32 b.val) 8192#32) (BitVec.ofNat 32 b.val) = BitVec.ofNat 32 b.val := by
  have hb := b.isLt
  have h : IntOp.cmpi .slt (BitVec.ofNat 32 b.val) 0#32 = 0#1 := by
    unfold IntOp.cmpi
    have e : (BitVec.ofNat 32 b.val).toInt = b.val := by
      rw [show BitVec.ofNat 32 b.val = BitVec.ofNat 32 b.val from rfl, BitVec.toInt_eq_toNat_of_lt] <;>
        rw [BitVec.toNat_ofNat, Nat.mod_eq_of_lt (by omega)]
      omega
    rw [BitVec.slt, e]
    have z : decide ((b.val : Int) < (0#32).toInt) = false := decide_eq_false (by rw [BitVec.toInt_zero]; omega)
    rw [z]
    rfl
  rw [h]
  rfl

/-- The row of the keys that an index names. -/
theorem pick_at (k : Vals S8192x2) (i : Words S8192) (n : Fin 8192) (c : Fin 2) (b : Fin 8192) (h : i (ix1 n) = BitVec.ofNat 32 b.val) :
    pick k i (ix2 n c) = k (ix2 b c) := by
  unfold pick
  refine (congrArg _ (ix2_eq_valueIdx n c)).trans ?_
  refine (Routing.gather_row gather_S8192x2_S8192x1_S8192x2_1_0_n_n_0_1_12 rfl rfl rfl rfl rfl k _ n c b ?_ (by decide)).trans ?_
  · rw [← ix2_eq_valueIdx]
    pointwise [h]
    exact pickWord b
  · rw [← ix2_eq_valueIdx]

theorem lossP_at (p t : Vals S8192x2) (s : Vals S2) : lossP p t s ix0
    = ∑ n : Fin 8192, ∑ c : Fin 2, FloatOps.absf (F := Ideal) (φ := .f32) (p (ix2 n c) - nearest p t (ix2 n c)) * s (ix1 c) := by
  unfold lossP
  pointwise []

theorem lossT_at (p t : Vals S8192x2) : lossT p t ix0
    = ∑ n : Fin 8192, ∑ c : Fin 2, FloatOps.absf (F := Ideal) (φ := .f32) (nearest t p (ix2 n c) - t (ix2 n c)) := by
  unfold lossT
  pointwise []

end Cert.Proof.Chamfer.Ref

end
-- ==== Proof.Near.lean ====
/-
  The two distances' first least keys agree at finite points.
-/
module

public import proofs.«01_k».proof.Proof.Nn

@[expose] public section

noncomputable section

namespace Cert.Proof.Chamfer

open Idealize.ShloMosaic

theorem two_word : Ideal.ofBits .f32 0x40000000#32 = ((2 : ℝ) : EReal) := by
  simp [Ideal.ofBits, Ideal.ieee, -EReal.coe_mul]
  norm_num
theorem neg_two_word : Ideal.ofBits .f32 0xC0000000#32 = ((-2 : ℝ) : EReal) := by
  simp [Ideal.ofBits, Ideal.ieee, -EReal.coe_mul]
  norm_num

/-- The kernel's distance at finite points: the squared distance less the query's own square. -/
theorem kdist_coe (u v x y : ℝ) : kdist u v x y = ((x * x + y * y - 2 * (u * x + v * y) : ℝ) : EReal) := by
  unfold kdist
  rw [neg_two_word]
  simp only [← EReal.coe_mul, ← EReal.coe_add, ← EReal.coe_sub]
  exact congrArg _ (by ring)

/-- The reference's distance at finite points. -/
theorem rdist_coe (u v x y : ℝ) : ((u : EReal) * u + (v : EReal) * v) + ((x : EReal) * x + (y : EReal) * y)
      - Ideal.ofBits .f32 0x40000000#32 * ((u : EReal) * x + (v : EReal) * y)
    = ((u * u + v * v + (x * x + y * y - 2 * (u * x + v * y)) : ℝ) : EReal) := by
  rw [two_word]
  simp only [← EReal.coe_mul, ← EReal.coe_add, ← EReal.coe_sub]
  exact congrArg _ (by ring)

theorem IsFirst.shift (f : Fin 8192 → ℝ) (c : ℝ) (k : Fin 8192) (h : IsFirst (fun j => ((f j : ℝ) : EReal)) k) :
    IsFirst (fun j => ((c + f j : ℝ) : EReal)) k :=
  ⟨fun j => EReal.coe_le_coe_iff.mpr (by have := EReal.coe_le_coe_iff.mp (h.1 j); linarith),
    fun j hj => EReal.coe_lt_coe_iff.mpr (by have := EReal.coe_lt_coe_iff.mp (h.2 j hj); linarith)⟩

/-- The key nearest to a finite query among finite keys: the first least for both distances. -/
theorem exists_near (u : Fin 2 → EReal) (z : Fin 8192 → Fin 2 → EReal) (hu : ∀ c, ∃ r : ℝ, u c = r) (hz : ∀ j c, ∃ r : ℝ, z j c = r) :
    ∃ k, IsFirst (fun j => kdist (u 0) (u 1) (z j 0) (z j 1)) k
      ∧ IsFirst (fun j => (u 0 * u 0 + u 1 * u 1) + (z j 0 * z j 0 + z j 1 * z j 1)
          - Ideal.ofBits .f32 0x40000000#32 * (u 0 * z j 0 + u 1 * z j 1)) k := by
  choose a ha using hu
  choose b hb using hz
  obtain ⟨k, hk⟩ := exists_isFirst fun j => kdist (u 0) (u 1) (z j 0) (z j 1)
  refine ⟨k, hk, ?_⟩
  simp only [ha, hb, kdist_coe] at hk
  simp only [ha, hb, rdist_coe]
  exact hk.shift _ _ _

/-- The absolute difference of finite values, either way round, and it is not negative. -/
theorem absf_sub_comm (a b : EReal) (ha : ∃ r : ℝ, a = r) (hb : ∃ r : ℝ, b = r) :
    FloatOps.absf (F := Ideal) (φ := .f32) (a - b) = FloatOps.absf (F := Ideal) (φ := .f32) (b - a) := by
  obtain ⟨a, rfl⟩ := ha
  obtain ⟨b, rfl⟩ := hb
  show max ((a : EReal) - b) (-((a : EReal) - b)) = max ((b : EReal) - a) (-((b : EReal) - a))
  simp only [← EReal.coe_sub, ← EReal.coe_neg]
  rw [max_comm, neg_sub, neg_sub]
theorem absf_nonneg (a : EReal) : (0 : EReal) ≤ FloatOps.absf (F := Ideal) (φ := .f32) a := by
  show 0 ≤ max a (-a)
  rcases le_total 0 a with h | h
  · exact le_max_of_le_left h
  · exact le_max_of_le_right (EReal.neg_nonneg.mpr h)

/-- A coefficient passes over a sum of values none of which is negative. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert i s hi ih =>
    rw [Finset.sum_insert hi, Finset.sum_insert hi, EReal.right_distrib_of_nonneg (hf i) (Finset.sum_nonneg fun j _ => hf j), ih]

end Cert.Proof.Chamfer

end
-- ==== Proof.Equation.lean ====
/-
  The kernel's result is the reference's, when the points are finite.
-/
module

public import proofs.«01_k».proof.Proof.Sums
public import proofs.«01_k».proof.Proof.ArgMin
public import proofs.«01_k».proof.Proof.RefVal
public import proofs.«01_k».proof.Proof.Near

@[expose] public section

noncomputable section

namespace Cert.Proof.Chamfer

open Cert.KernelIdeal Cert.KernelIdeal.Gen
open Idealize.ShloMosaic

set_option maxRecDepth 16384

theorem at8192_val (n : Fin 8192) : at8192 n.val = ix1 n := by
  funext a
  match a with
  | 0 => exact Fin.ext (Nat.mod_eq_of_lt n.isLt)

theorem at8192_word (k : Fin 8192) : at8192 (BitVec.toNat (BitVec.ofNat 32 k.val)) = ix1 k := by
  rw [BitVec.toNat_ofNat, Nat.mod_eq_of_lt (by have := k.isLt; omega), at8192_val]

theorem term_at (q t : S8192.Idx → EReal) (ix : S8192.Idx → BitVec 32) (n k : Fin 8192) (h : ix (ix1 n) = BitVec.ofNat 32 k.val) :
    term q t ix n.val = FloatOps.absf (F := Ideal) (φ := .f32) (q (ix1 n) - t (ix1 k)) := by
  unfold term
  rw [at8192_val, h, at8192_word]

/-- A query's nearest key in the reference. -/
theorem nearest_at (q z : Ref.Vals Cert.ReferenceIdeal.S8192x2) (n k : Fin 8192)
    (h : IsFirst (fun j => (q (ix2 n 0) * q (ix2 n 0) + q (ix2 n 1) * q (ix2 n 1)) + (z (ix2 j 0) * z (ix2 j 0) + z (ix2 j 1) * z (ix2 j 1))
      - Ideal.ofBits .f32 0x40000000#32 * (q (ix2 n 0) * z (ix2 j 0) + q (ix2 n 1) * z (ix2 j 1))) k) (c : Fin 2) :
    Ref.nearest q z (ix2 n c) = z (ix2 k c) := by
  unfold Ref.nearest
  refine Ref.pick_at z _ n c k (Ref.argMin_at _ n k ?_)
  have e : (fun j => Ref.dist q z (ix2 n j)) = _ := funext fun j => Ref.dist_at q z n j
  rw [e]
  exact h

variable (W : Valuation τ sig (Elt Ideal))

/-- The points are finite. -/
def Finite : Prop := ∀ n c, (∃ r : ℝ, argP W n c = r) ∧ ∃ r : ℝ, argT W n c = r

/-- The arguments, as the reference takes them. -/
def refP : Ref.Vals Cert.ReferenceIdeal.S8192x2 := Ref.take (W (Proc.devRef .tc main_arg0) : S8192x4.Idx → EReal)
def refT : Ref.Vals Cert.ReferenceIdeal.S8192x2 := Ref.take (W (Proc.devRef .tc main_arg1) : S8192x4.Idx → EReal)

theorem refP_at (n : Fin 8192) (c : Fin 2) : refP W (ix2 n c) = argP W n c := Ref.take_at _ n c
theorem refT_at (n : Fin 8192) (c : Fin 2) : refT W (ix2 n c) = argT W n c := Ref.take_at _ n c

/-- The nearest target of a prediction, for kernel and reference. -/
theorem near_gt (hf : Finite W) (n : Fin 8192) : ∃ k : Fin 8192, (insOf (val3 W)).ig (ix1 n) = BitVec.ofNat 32 k.val
    ∧ ∀ c, Ref.nearest (refP W) (refT W) (ix2 n c) = argT W k c := by
  obtain ⟨k, h1, h2⟩ := exists_near (argP W n) (argT W) (fun c => (hf n c).1) (fun j c => (hf j c).2)
  refine ⟨k, ?_, fun c => ?_⟩
  · rw [insOf_ig]
    exact (ig_at W n).trans (nnIdx_eq _ k h1)
  · rw [← refT_at]
    refine nearest_at _ _ n k ?_ c
    simp only [refP_at, refT_at]
    exact h2
/-- The nearest prediction of a target. -/
theorem near_pred (hf : Finite W) (n : Fin 8192) : ∃ k : Fin 8192, (insOf (val3 W)).ip (ix1 n) = BitVec.ofNat 32 k.val
    ∧ ∀ c, Ref.nearest (refT W) (refP W) (ix2 n c) = argP W k c := by
  obtain ⟨k, h1, h2⟩ := exists_near (argT W n) (argP W) (fun c => (hf n c).2) (fun j c => (hf j c).1)
  refine ⟨k, ?_, fun c => ?_⟩
  · rw [insOf_ip]
    exact (ip_at W n).trans (nnIdx_eq _ k h1)
  · rw [← refP_at]
    refine nearest_at _ _ n k ?_ c
    simp only [refP_at, refT_at]
    exact h2

/-- A prediction's terms and a target's, in the reference's words. -/
theorem terms_gt (hf : Finite W) (n : Fin 8192) :
    terms (insOf (val3 W)) 0 n.val = FloatOps.absf (F := Ideal) (φ := .f32) (refP W (ix2 n 0) - Ref.nearest (refP W) (refT W) (ix2 n 0))
    ∧ terms (insOf (val3 W)) 1 n.val = FloatOps.absf (F := Ideal) (φ := .f32) (refP W (ix2 n 1) - Ref.nearest (refP W) (refT W) (ix2 n 1)) := by
  obtain ⟨k, hk, hn⟩ := near_gt W hf n
  rw [hn, hn, refP_at, refP_at]
  refine ⟨(term_at _ _ _ n k hk).trans ?_, (term_at _ _ _ n k hk).trans ?_⟩
  · exact congrArg₂ (fun a b : EReal => FloatOps.absf (F := Ideal) (φ := .f32) (a - b)) (px_at W n) (tx_at W k)
  · exact congrArg₂ (fun a b : EReal => FloatOps.absf (F := Ideal) (φ := .f32) (a - b)) (py_at W n) (ty_at W k)
theorem terms_pred (hf : Finite W) (n : Fin 8192) :
    terms (insOf (val3 W)) 2 n.val = FloatOps.absf (F := Ideal) (φ := .f32) (Ref.nearest (refT W) (refP W) (ix2 n 0) - refT W (ix2 n 0))
    ∧ terms (insOf (val3 W)) 3 n.val = FloatOps.absf (F := Ideal) (φ := .f32) (Ref.nearest (refT W) (refP W) (ix2 n 1) - refT W (ix2 n 1)) := by
  obtain ⟨k, hk, hn⟩ := near_pred W hf n
  rw [hn, hn, refT_at, refT_at]
  refine ⟨(term_at _ _ _ n k hk).trans ?_, (term_at _ _ _ n k hk).trans ?_⟩
  · rw [absf_sub_comm _ _ (hf k 0).1 (hf n 0).2]
    exact congrArg₂ (fun a b : EReal => FloatOps.absf (F := Ideal) (φ := .f32) (a - b)) (tx_at W n) (px_at W k)
  · rw [absf_sub_comm _ _ (hf k 1).1 (hf n 1).2]
    exact congrArg₂ (fun a b : EReal => FloatOps.absf (F := Ideal) (φ := .f32) (a - b)) (ty_at W n) (py_at W k)

/-- The equation: the kernel's result is the reference's loss. -/
theorem result_eq (hf : Finite W) : (val5 W (Proc.devRef .tc main_v41) : S_.Idx → EReal)
    = Ref.loss (W (Proc.devRef .tc main_arg0) : S8192x4.Idx → EReal) (W (Proc.devRef .tc main_arg1) : S8192x4.Idx → EReal)
        (W (Proc.devRef .tc main_arg2) : S2.Idx → EReal) := by
  funext z
  obtain rfl : z = ix0 := funext fun i => i.elim0
  rw [v41_at]
  show _ = (Ref.lossT (refP W) (refT W) ix0 : EReal) + Ref.lossP (refP W) (refT W) (W (Proc.devRef .tc main_arg2) : S2.Idx → EReal) ix0
  rw [Ref.lossT_at, Ref.lossP_at]
  simp only [Fin.sum_univ_two, Finset.sum_add_distrib]
  rw [← sum_mul_of_nonneg _ _ (fun _ => absf_nonneg _), ← sum_mul_of_nonneg _ _ (fun _ => absf_nonneg _)]
  simp only [← (terms_gt W hf _).1, ← (terms_gt W hf _).2, ← (terms_pred W hf _).1, ← (terms_pred W hf _).2]
  rw [add_assoc, add_comm]

end Cert.Proof.Chamfer

end
-- ==== Proof.lean ====
module

public import proofs.«01_k».proof.Defs
public import proofs.«01_k».proof.Proof.KernelFrame
public import proofs.«01_k».proof.Proof.RefRun
public import proofs.«01_k».proof.Proof.Finite
public import proofs.«01_k».proof.Proof.Equation

@[expose] public section

noncomputable section

namespace Cert.Proof

open Idealize.ShloMosaic Idealize.SL.Sem

theorem kernel_frame : @Cert.quiescent_KernelIdeal Cert.KernelIdeal.Gen.facts := fun m g _ =>
  θ_run_mono (Chamfer.kernel_run m g) fun _ h => ⟨fun c => (h.1 c).2, h.2⟩
theorem kernel_frame_finite : @Cert.quiescent_KernelIdeal_pre_finite Cert.KernelIdeal.Gen.facts Chamfer.preFacts := fun m g _ =>
  θ_run_mono (Chamfer.kernel_run m g) fun _ h => ⟨fun c => (h.1 c).2, h.2⟩
theorem reference_frame : @Cert.quiescent_ReferenceIdeal Cert.ReferenceIdeal.Gen.facts := fun m g _ =>
  θ_run_mono (Chamfer.Ref.reference_run m g) fun _ h => ⟨fun c => (h.1 c).2, h.2⟩
theorem reference_frame_finite : @Cert.quiescent_ReferenceIdeal_pre_finite Cert.ReferenceIdeal.Gen.facts Chamfer.preFacts := fun m g _ =>
  θ_run_mono (Chamfer.Ref.reference_run m g) fun _ h => ⟨fun c => (h.1 c).2, h.2⟩

/-- The precondition, read of the arguments' entry values. -/
theorem finite_of (m : (ℓ : Loc Cert.KernelIdeal.nD Cert.KernelIdeal.τ Cert.KernelIdeal.sig) → Buf (Elt Ideal) ℓ)
    (h : @Cert.Pre_KernelIdeal_finite Chamfer.preFacts m) (c : Dev Cert.KernelIdeal.nD) : Chamfer.Finite (Chamfer.val0 m c) :=
  fun n k => Chamfer.finite_args _ _ _ (h c) n k

/-- Kernel and reference end with the same loss. -/
theorem kernel_reference : @Cert.algebraic_KernelIdeal_ReferenceIdeal_pre_finite Cert.KernelIdeal.Gen.facts Cert.ReferenceIdeal.Gen.facts Chamfer.preFacts := by
  intro m g m' g' hpre hagree
  refine ⟨fun c => Chamfer.val5 (Chamfer.val0 m c) (Proc.devRef .tc Cert.KernelIdeal.main_v41),
    θ_run_mono (Chamfer.kernel_run m g) fun _ h => h.1, θ_run_mono (Chamfer.Ref.reference_run m' g') fun _ h c => ⟨(h.1 c).1.trans ?_, (h.1 c).2⟩⟩
  rw [(hagree c).1, (hagree c).2.1, (hagree c).2.2]
  exact (Chamfer.result_eq (Chamfer.val0 m c) (finite_of m hpre c)).symm

theorem claim : Cert.Claim := ⟨Cert.KernelIdeal.Gen.facts, Cert.ReferenceIdeal.Gen.facts, Chamfer.preFacts, kernel_frame, kernel_frame_finite,
  reference_frame, reference_frame_finite, kernel_reference⟩

end Cert.Proof

end
